-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dx_in_range [hPre_dx_in_range : Cert.Pre_dx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_dx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dx_in_range [hPre_dx_in_range : Cert.Pre_dx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_dx_in_range [hKernelIdeal : Cert.KernelIdeal.Facts] [hPre_dx_in_range : Cert.Pre_dx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dx_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dx_in_range [hReferenceIdeal : Cert.ReferenceIdeal.Facts] [hPre_dx_in_range : Cert.Pre_dx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x38AAAAAB#32 ((1 / 12288 : ℝ) : EReal)

def algebraic_KernelIdeal_ReferenceIdeal_pre_dx_in_range [hKernelIdeal : Cert.KernelIdeal.Facts] [hReferenceIdeal : Cert.ReferenceIdeal.Facts] [hPre_dx_in_range : Cert.Pre_dx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dx_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v108_0) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v108_1) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_dx_in_range : Cert.Pre_dx_in_range.Facts),
    quiescent_Kernel (hKernel := hKernel)
    ∧ quiescent_KernelIdeal (hKernelIdeal := hKernelIdeal)
    ∧ quiescent_KernelIdeal_pre_dx_in_range (hKernelIdeal := hKernelIdeal) (hPre_dx_in_range := hPre_dx_in_range)
    ∧ quiescent_ReferenceIdeal (hReferenceIdeal := hReferenceIdeal)
    ∧ quiescent_ReferenceIdeal_pre_dx_in_range (hReferenceIdeal := hReferenceIdeal) (hPre_dx_in_range := hPre_dx_in_range)
    ∧ preserves_Kernel_KernelIdeal
    ∧ algebraic_KernelIdeal_ReferenceIdeal_pre_dx_in_range (hKernelIdeal := hKernelIdeal) (hReferenceIdeal := hReferenceIdeal) (hPre_dx_in_range := hPre_dx_in_range)
-- ==== Pre_dx_in_range.lean ====
abbrev S2x896x12288 : Shape := ⟨3, ![2, 896, 12288]⟩
abbrev S12288 : Shape := ⟨1, ![12288]⟩
abbrev S2x896 : Shape := ⟨2, ![2, 896]⟩
abbrev S2x896x1 : Shape := ⟨3, ![2, 896, 1]⟩
abbrev S1x1x12288 : Shape := ⟨3, ![1, 1, 12288]⟩
abbrev S_ : Shape := ⟨0, ![]⟩

class Facts : Prop where
  bitsLt_bf16_f32 : FTy.bits .bf16 < FTy.bits .f32
  bcast_S2x896_S2x896x1_0_1 : S2x896.BroadcastsInDim S2x896x1 (![0, 1] : Fin 2 → Fin S2x896x1.rank)
  bcast_S2x896x1_S2x896x12288_0_1_2 : S2x896x1.BroadcastsInDim S2x896x12288 (![0, 1, 2] : Fin 3 → Fin S2x896x12288.rank)
  bcast_S12288_S1x1x12288_2 : S12288.BroadcastsInDim S1x1x12288 (![2] : Fin 1 → Fin S1x1x12288.rank)
  bcast_S1x1x12288_S2x896x12288_0_1_2 : S1x1x12288.BroadcastsInDim S2x896x12288 (![0, 1, 2] : Fin 3 → Fin S2x896x12288.rank)
  reducesTo_S2x896x12288_S2x896_d2 : S2x896x12288.ReducesTo [2] S2x896
  h_S_ : 0 < S_.numel
  bcast_S_S2x896x1 : S_.BroadcastsInDim S2x896x1 (![] : Fin 0 → Fin S2x896x1.rank)
  bcast_S_S2x896x12288 : S_.BroadcastsInDim S2x896x12288 (![] : Fin 0 → Fin S2x896x12288.rank)

variable [Facts]

def fn_part1 {F : FTy → Type} [FloatOps F] (main_v19 : FVec F S2x896x12288 .f32) (main_v20 : FVec F S2x896x12288 .f32) : IVec S2x896x12288 1 :=
  let main_v21 : IVec S2x896x12288 1 := cmpf .ole main_v19 main_v20
  main_v21

def fn {F : FTy → Type} [FloatOps F] (main_arg0 : FVec F S2x896x12288 .bf16) (main_arg1 : FVec F S2x896x12288 .bf16) (main_arg2 : FVec F S12288 .f32) (main_arg3 : FVec F S2x896 .f32) : IVec S2x896x12288 1 :=
  let main_v0 : FVec F S2x896x12288 .f32 := (extf .f32 · bitsLt_bf16_f32) main_arg0
  let main_v1 : FVec F S2x896x12288 .f32 := (extf .f32 · bitsLt_bf16_f32) main_arg1
  let main_v2 : FVec F S2x896x1 .f32 := broadcastInDim S2x896x1 ![0, 1] bcast_S2x896_S2x896x1_0_1 main_arg3
  let main_v3 : FVec F S2x896x12288 .f32 := broadcastInDim S2x896x12288 ![0, 1, 2] bcast_S2x896x1_S2x896x12288_0_1_2 main_v2
  let main_v4 : FVec F S2x896x12288 .f32 := mulf main_v0 main_v3
  let main_v5 : FVec F S1x1x12288 .f32 := broadcastInDim S1x1x12288 ![2] bcast_S12288_S1x1x12288_2 main_arg2
  let main_v6 : FVec F S2x896x12288 .f32 := broadcastInDim S2x896x12288 ![0, 1, 2] bcast_S1x1x12288_S2x896x12288_0_1_2 main_v5
  let main_v7 : FVec F S2x896x12288 .f32 := mulf main_v1 main_v6
  let main_v8 : FVec F S2x896x12288 .f32 := mulf main_v7 main_v4
  let main_cst : FVec F S_ .f32 := constant S_ .f32 0x00000000#32
  let main_v9 : FVec F S2x896 .f32 := (fun x v => Host.reduceAdd x v reducesTo_S2x896x12288_S2x896_d2 h_S_) main_v8 main_cst
  let main_v10 : FVec F S2x896x1 .f32 := broadcastInDim S2x896x1 ![0, 1] bcast_S2x896_S2x896x1_0_1 main_v9
  let main_cst_0 : FVec F S_ .f32 := constant S_ .f32 0x46400000#32
  let main_v11 : FVec F S2x896x1 .f32 := broadcastInDim S2x896x1 ![] bcast_S_S2x896x1 main_cst_0
  let main_v12 : FVec F S2x896x1 .f32 := Host.divf main_v10 main_v11
  let main_v13 : FVec F S2x896x12288 .f32 := broadcastInDim S2x896x12288 ![0, 1, 2] bcast_S2x896x1_S2x896x12288_0_1_2 main_v12
  let main_v14 : FVec F S2x896x12288 .f32 := mulf main_v4 main_v13
  let main_v15 : FVec F S2x896x12288 .f32 := subf main_v7 main_v14
  let main_v16 : FVec F S2x896x12288 .f32 := broadcastInDim S2x896x12288 ![0, 1, 2] bcast_S2x896x1_S2x896x12288_0_1_2 main_v2
  let main_v17 : FVec F S2x896x12288 .f32 := mulf main_v16 main_v15
  let main_v18 : FVec F S2x896x12288 .f32 := mulf main_v1 main_v4
  let main_v19 : FVec F S2x896x12288 .f32 := Host.absf main_v17
  let main_cst_1 : FVec F S_ .f32 := constant S_ .f32 0x7F7FFFFF#32
  let main_v20 : FVec F S2x896x12288 .f32 := broadcastInDim S2x896x12288 ![] bcast_S_S2x896x12288 main_cst_1
  fn_part1 (F := F) main_v19 main_v20
-- ==== Kernel.lean ====
abbrev S2x896x12288 : Shape := ⟨3, ![2, 896, 12288]⟩
abbrev S12288 : Shape := ⟨1, ![12288]⟩
abbrev S2x896 : Shape := ⟨2, ![2, 896]⟩
abbrev S1792x12288 : Shape := ⟨2, ![1792, 12288]⟩
abbrev S1x12288 : Shape := ⟨2, ![1, 12288]⟩
abbrev S14x1x128 : Shape := ⟨3, ![14, 1, 128]⟩
abbrev S1792x384 : Shape := ⟨2, ![1792, 384]⟩
abbrev S12288x1792 : Shape := ⟨2, ![12288, 1792]⟩
abbrev S12288x56 : Shape := ⟨2, ![12288, 56]⟩
abbrev S128x12288 : Shape := ⟨2, ![128, 12288]⟩
abbrev S1x1x128 : Shape := ⟨3, ![1, 1, 128]⟩
abbrev S128x384 : Shape := ⟨2, ![128, 384]⟩
abbrev S12288x128 : Shape := ⟨2, ![12288, 128]⟩
abbrev S96x4x128 : Shape := ⟨3, ![96, 4, 128]⟩
abbrev S128x128 : Shape := ⟨2, ![128, 128]⟩
abbrev S8x12288 : Shape := ⟨2, ![8, 12288]⟩
abbrev S14x4x12288 : Shape := ⟨3, ![14, 4, 12288]⟩
abbrev S1x128 : Shape := ⟨2, ![1, 128]⟩
abbrev S16x8x128 : Shape := ⟨3, ![16, 8, 128]⟩
abbrev S8x128 : Shape := ⟨2, ![8, 128]⟩
abbrev S128 : Shape := ⟨1, ![128]⟩
abbrev S128x1 : Shape := ⟨2, ![128, 1]⟩
abbrev S4x32x128 : Shape := ⟨3, ![4, 32, 128]⟩
abbrev S4x128 : Shape := ⟨2, ![4, 128]⟩
abbrev S1x4x128 : Shape := ⟨3, ![1, 4, 128]⟩
abbrev S4x1x128 : Shape := ⟨3, ![4, 1, 128]⟩
abbrev S384x128 : Shape := ⟨2, ![384, 128]⟩
abbrev S14x4x128 : Shape := ⟨3, ![14, 4, 128]⟩
abbrev S56x128 : Shape := ⟨2, ![56, 128]⟩
abbrev S128x56 : Shape := ⟨2, ![128, 56]⟩

abbrev nBuf : Space → Nat
  | .hbm => 13
  | .vmem => 20
  | .smem => 0
  | _ => 0

abbrev bufTy : (tb : Table) → Fin (tcTables nBuf tb) → BufTy
  | .hbm, ⟨0, _⟩ => ⟨S2x896x12288, .bf16⟩
  | .hbm, ⟨1, _⟩ => ⟨S2x896x12288, .bf16⟩
  | .hbm, ⟨2, _⟩ => ⟨S12288, .f32⟩
  | .hbm, ⟨3, _⟩ => ⟨S2x896, .f32⟩
  | .hbm, ⟨4, _⟩ => ⟨S1792x12288, .bf16⟩
  | .hbm, ⟨5, _⟩ => ⟨S1792x12288, .bf16⟩
  | .hbm, ⟨6, _⟩ => ⟨S1x12288, .f32⟩
  | .hbm, ⟨7, _⟩ => ⟨S14x1x128, .f32⟩
  | .hbm, ⟨8, _⟩ => ⟨S1x12288, .f32⟩
  | .hbm, ⟨9, _⟩ => ⟨S1792x12288, .fp8e5m2⟩
  | .hbm, ⟨10, _⟩ => ⟨S1792x384, .i8⟩
  | .hbm, ⟨11, _⟩ => ⟨S12288x1792, .fp8e5m2⟩
  | .hbm, ⟨12, _⟩ => ⟨S12288x56, .i8⟩
  | .local _ .vmem, ⟨0, _⟩ => ⟨S128x12288, .bf16⟩
  | .local _ .vmem, ⟨1, _⟩ => ⟨S128x12288, .bf16⟩
  | .local _ .vmem, ⟨2, _⟩ => ⟨S128x12288, .bf16⟩
  | .local _ .vmem, ⟨3, _⟩ => ⟨S128x12288, .bf16⟩
  | .local _ .vmem, ⟨4, _⟩ => ⟨S1x12288, .f32⟩
  | .local _ .vmem, ⟨5, _⟩ => ⟨S1x1x128, .f32⟩
  | .local _ .vmem, ⟨6, _⟩ => ⟨S1x1x128, .f32⟩
  | .local _ .vmem, ⟨7, _⟩ => ⟨S1x12288, .f32⟩
  | .local _ .vmem, ⟨8, _⟩ => ⟨S128x12288, .fp8e5m2⟩
  | .local _ .vmem, ⟨9, _⟩ => ⟨S128x12288, .fp8e5m2⟩
  | .local _ .vmem, ⟨10, _⟩ => ⟨S128x384, .i8⟩
  | .local _ .vmem, ⟨11, _⟩ => ⟨S128x384, .i8⟩
  | .local _ .vmem, ⟨12, _⟩ => ⟨S12288x128, .fp8e5m2⟩
  | .local _ .vmem, ⟨13, _⟩ => ⟨S12288x128, .fp8e5m2⟩
  | .local _ .vmem, ⟨14, _⟩ => ⟨S12288x56, .i8⟩
  | .local _ .vmem, ⟨15, _⟩ => ⟨S96x4x128, .i32⟩
  | .local _ .vmem, ⟨16, _⟩ => ⟨S128x128, .f32⟩
  | .local _ .vmem, ⟨17, _⟩ => ⟨S128x128, .f32⟩
  | .local _ .vmem, ⟨18, _⟩ => ⟨S8x12288, .f32⟩
  | .local _ .vmem, ⟨19, _⟩ => ⟨S14x4x12288, .i32⟩
  | _, _ => ⟨S2x896x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_7 : BitVec 32 := 0#32
  let c96_i32 : BitVec 32 := 96#32
  let v15 : BitVec 32 := Scalar.addi c0_i32_7 c96_i32
  let c1_i32 : BitVec 32 := 1#32
  ⟨c0_i32_7, v15, c1_i32⟩
def k0_mult1 (k0_t1 : Fin k0_t1_loop.trips) : BitVec 32 :=
  let c0_i32_7 : BitVec 32 := 0#32
  let c1_i32 : BitVec 32 := 1#32
  let arg15 : BitVec 32 := Scf.iv c0_i32_7 c1_i32 k0_t1
  let c128_i32 : BitVec 32 := 128#32
  let v35 : BitVec 32 := Scalar.muli arg15 c128_i32
  v35
def k0_off1 (k0_t1 : Fin k0_t1_loop.trips) : Fin 2 → Nat :=
  let c0_25 : Index := 0#32
  let c0_i32_7 : BitVec 32 := 0#32
  let c1_i32 : BitVec 32 := 1#32
  let arg15 : BitVec 32 := Scf.iv c0_i32_7 c1_i32 k0_t1
  let c128_i32 : BitVec 32 := 128#32
  let v35 : BitVec 32 := Scalar.muli arg15 c128_i32
  let v36 : BitVec 32 := v35
  let v37 : Index := Scalar.indexCast v36
  ![0, v37.toNat]
def k0_off2 (k0_t1 : Fin k0_t1_loop.trips) : Fin 2 → Nat :=
  let c0_27 : Index := 0#32
  let c0_i32_7 : BitVec 32 := 0#32
  let c1_i32 : BitVec 32 := 1#32
  let arg15 : BitVec 32 := Scf.iv c0_i32_7 c1_i32 k0_t1
  let c128_i32 : BitVec 32 := 128#32
  let v35 : BitVec 32 := Scalar.muli arg15 c128_i32
  let v36 : BitVec 32 := v35
  let v45 : Index := Scalar.indexCast v36
  ![0, v45.toNat]
def k0_off3 (k0_t1 : Fin k0_t1_loop.trips) : Fin 2 → Nat :=
  let c0_34 : Index := 0#32
  let c0_i32_7 : BitVec 32 := 0#32
  let c1_i32 : BitVec 32 := 1#32
  let arg15 : BitVec 32 := Scf.iv c0_i32_7 c1_i32 k0_t1
  let c128_i32 : BitVec 32 := 128#32
  let v35 : BitVec 32 := Scalar.muli arg15 c128_i32
  let v36 : BitVec 32 := v35
  let v60 : Index := Scalar.indexCast v36
  ![0, v60.toNat]
@[reducible] def k0_t2_loop : Scf.Loop 32 :=
  let c0_i32_15 : BitVec 32 := 0#32
  let c96_i32_16 : BitVec 32 := 96#32
  let v26 : BitVec 32 := Scalar.addi c0_i32_15 c96_i32_16
  let c1_i32_17 : BitVec 32 := 1#32
  ⟨c0_i32_15, v26, c1_i32_17⟩
def k0_mult2 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c128_i32 : BitVec 32 := 128#32
  let v35 : BitVec 32 := Scalar.muli arg15 c128_i32
  v35
def k0_off4 (k0_t2 : Fin k0_t2_loop.trips) : Fin 2 → Nat :=
  let c0_25 : Index := 0#32
  let c0_i32_15 : BitVec 32 := 0#32
  let c1_i32_17 : BitVec 32 := 1#32
  let arg15 : BitVec 32 := Scf.iv c0_i32_15 c1_i32_17 k0_t2
  let c128_i32 : BitVec 32 := 128#32
  let v35 : BitVec 32 := Scalar.muli arg15 c128_i32
  let v36 : BitVec 32 := v35
  let v37 : Index := Scalar.indexCast v36
  ![0, v37.toNat]
def k0_off5 (k0_t2 : Fin k0_t2_loop.trips) : Fin 2 → Nat :=
  let c0_27 : Index := 0#32
  let c0_i32_15 : BitVec 32 := 0#32
  let c1_i32_17 : BitVec 32 := 1#32
  let arg15 : BitVec 32 := Scf.iv c0_i32_15 c1_i32_17 k0_t2
  let c128_i32 : BitVec 32 := 128#32
  let v35 : BitVec 32 := Scalar.muli arg15 c128_i32
  let v36 : BitVec 32 := v35
  let v45 : Index := Scalar.indexCast v36
  ![0, v45.toNat]
def k0_off6 (i : grid0.Coords) (k0_t2 : Fin k0_t2_loop.trips) : Fin 3 → Nat :=
  let arg0 : BitVec 32 := BitVec.ofNat 32 (i 0).val
  let v133 : Index := Scalar.indexCast arg0
  let c0_47 : Index := 0#32
  let c0_i32_15 : BitVec 32 := 0#32
  let c1_i32_17 : BitVec 32 := 1#32
  let arg15 : BitVec 32 := Scf.iv c0_i32_15 c1_i32_17 k0_t2
  let c128_i32 : BitVec 32 := 128#32
  let v35 : BitVec 32 := Scalar.muli arg15 c128_i32
  let v36 : BitVec 32 := v35
  let v134 : Index := Scalar.indexCast v36
  ![v133.toNat, 0, v134.toNat]
def k0_off7 (k0_t2 : Fin k0_t2_loop.trips) : Fin 2 → Nat :=
  let c0_i32_15 : BitVec 32 := 0#32
  let c1_i32_17 : BitVec 32 := 1#32
  let arg15 : BitVec 32 := Scf.iv c0_i32_15 c1_i32_17 k0_t2
  let c128_i32 : BitVec 32 := 128#32
  let v35 : BitVec 32 := Scalar.muli arg15 c128_i32
  let v36 : BitVec 32 := v35
  let v154 : Index := Scalar.indexCast v36
  let c0_52 : Index := 0#32
  ![v154.toNat, 0]
def k0_off8 (k0_t2 : Fin k0_t2_loop.trips) : Fin 3 → Nat :=
  let c0_i32_15 : BitVec 32 := 0#32
  let c1_i32_17 : BitVec 32 := 1#32
  let arg15 : BitVec 32 := Scf.iv c0_i32_15 c1_i32_17 k0_t2
  let v233 : Index := Scalar.indexCast arg15
  let c0_79 : Index := 0#32
  let c0_80 : Index := 0#32
  ![v233.toNat, 0, 0]
def k0_cond2 (i : grid0.Coords) : BitVec 1 :=
  let arg0 : BitVec 32 := BitVec.ofNat 32 (i 0).val
  let c13_i32 : BitVec 32 := 13#32
  let v32 : BitVec 1 := Scalar.cmpi .eq arg0 c13_i32
  let v33 : BitVec 32 := Scalar.extui v32
  let c0_i32_24 : BitVec 32 := 0#32
  let v34 : BitVec 1 := Scalar.cmpi .ne v33 c0_i32_24
  v34

@[reducible] def k0_t3_loop : Scf.Loop 32 :=
  let c0_i32_30 : BitVec 32 := 0#32
  let c96_i32_31 : BitVec 32 := 96#32
  let v39 : BitVec 32 := Scalar.addi c0_i32_30 c96_i32_31
  let c1_i32_32 : BitVec 32 := 1#32
  ⟨c0_i32_30, v39, c1_i32_32⟩
def k0_mult3 (k0_t3 : Fin k0_t3_loop.trips) : BitVec 32 :=
  let c0_i32_30 : BitVec 32 := 0#32
  let c1_i32_32 : BitVec 32 := 1#32
  let arg15 : BitVec 32 := Scf.iv c0_i32_30 c1_i32_32 k0_t3
  let c128_i32 : BitVec 32 := 128#32
  let v40 : BitVec 32 := Scalar.muli arg15 c128_i32
  v40
def k0_off9 (k0_t3 : Fin k0_t3_loop.trips) : Fin 3 → Nat :=
  let c0_34 : Index := 0#32
  let c0_35 : Index := 0#32
  let c0_i32_30 : BitVec 32 := 0#32
  let c1_i32_32 : BitVec 32 := 1#32
  let arg15 : BitVec 32 := Scf.iv c0_i32_30 c1_i32_32 k0_t3
  let c128_i32 : BitVec 32 := 128#32
  let v40 : BitVec 32 := Scalar.muli arg15 c128_i32
  let v41 : BitVec 32 := v40
  let v42 : Index := Scalar.indexCast v41
  ![0, 0, v42.toNat]
def k0_off10 (k0_t3 : Fin k0_t3_loop.trips) : Fin 2 → Nat :=
  let c0_i32_30 : BitVec 32 := 0#32
  let c1_i32_32 : BitVec 32 := 1#32
  let arg15 : BitVec 32 := Scf.iv c0_i32_30 c1_i32_32 k0_t3
  let c128_i32 : BitVec 32 := 128#32
  let v40 : BitVec 32 := Scalar.muli arg15 c128_i32
  let v41 : BitVec 32 := v40
  let v47 : Index := Scalar.indexCast v41
  let c0_36 : Index := 0#32
  ![v47.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x12288 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12288x128 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12288x56 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_d" => some ((1 / 12288 : ℝ) : EReal)
  | _ => none
-- ==== ReferenceIdeal.lean ====
abbrev S2x896x12288 : Shape := ⟨3, ![2, 896, 12288]⟩
abbrev S12288 : Shape := ⟨1, ![12288]⟩
abbrev S2x896 : Shape := ⟨2, ![2, 896]⟩
abbrev S2x896x1 : Shape := ⟨3, ![2, 896, 1]⟩
abbrev S1x1x12288 : Shape := ⟨3, ![1, 1, 12288]⟩
abbrev S_ : Shape := ⟨0, ![]⟩
abbrev S1x12288 : Shape := ⟨2, ![1, 12288]⟩
abbrev S2x896x384x32 : Shape := ⟨4, ![2, 896, 384, 32]⟩
abbrev S2x896x384 : Shape := ⟨3, ![2, 896, 384]⟩
abbrev S254 : Shape := ⟨1, ![254]⟩
abbrev S2x896x384x1 : Shape := ⟨4, ![2, 896, 384, 1]⟩
abbrev S1x1x1x254 : Shape := ⟨4, ![1, 1, 1, 254]⟩
abbrev S2x896x384x254 : Shape := ⟨4, ![2, 896, 384, 254]⟩
abbrev S1792x12288 : Shape := ⟨2, ![1792, 12288]⟩
abbrev S12288x1792 : Shape := ⟨2, ![12288, 1792]⟩
abbrev S12288x56x32 : Shape := ⟨3, ![12288, 56, 32]⟩
abbrev S12288x56 : Shape := ⟨2, ![12288, 56]⟩
abbrev S12288x56x1 : Shape := ⟨3, ![12288, 56, 1]⟩
abbrev S1x1x254 : Shape := ⟨3, ![1, 1, 254]⟩
abbrev S12288x56x254 : Shape := ⟨3, ![12288, 56, 254]⟩
abbrev S1792x384 : Shape := ⟨2, ![1792, 384]⟩

abbrev nBuf : Space → Nat
  | .hbm => 183
  | .vmem => 4
  | .smem => 0
  | _ => 0

abbrev hbmTy0_0 (i : Nat) : BufTy := match i % 128 with
  | 0 => ⟨S2x896x12288, .bf16⟩
  | 1 => ⟨S2x896x12288, .bf16⟩
  | 2 => ⟨S12288, .f32⟩
  | 3 => ⟨S2x896, .f32⟩
  | 4 => ⟨S2x896x12288, .f32⟩
  | 5 => ⟨S2x896x12288, .f32⟩
  | 6 => ⟨S2x896x1, .f32⟩
  | 7 => ⟨S2x896x12288, .f32⟩
  | 8 => ⟨S2x896x12288, .f32⟩
  | 9 => ⟨S1x1x12288, .f32⟩
  | 10 => ⟨S2x896x12288, .f32⟩
  | 11 => ⟨S2x896x12288, .f32⟩
  | 12 => ⟨S2x896x12288, .f32⟩
  | 13 => ⟨S_, .f32⟩
  | 14 => ⟨S2x896, .f32⟩
  | 15 => ⟨S2x896x1, .f32⟩
  | 16 => ⟨S_, .f32⟩
  | 17 => ⟨S2x896x1, .f32⟩
  | 18 => ⟨S2x896x1, .f32⟩
  | 19 => ⟨S2x896x12288, .f32⟩
  | 20 => ⟨S2x896x12288, .f32⟩
  | 21 => ⟨S2x896x12288, .f32⟩
  | 22 => ⟨S2x896x12288, .f32⟩
  | 23 => ⟨S2x896x12288, .f32⟩
  | 24 => ⟨S2x896x12288, .f32⟩
  | 25 => ⟨S_, .f32⟩
  | 26 => ⟨S12288, .f32⟩
  | 27 => ⟨S1x12288, .f32⟩
  | 28 => ⟨S2x896x384x32, .f32⟩
  | 29 => ⟨S2x896x384x32, .f32⟩
  | 30 => ⟨S_, .f32⟩
  | 31 => ⟨S2x896x384, .f32⟩
  | 32 => ⟨S_, .f32⟩
  | 33 => ⟨S2x896x384, .f32⟩
  | 34 => ⟨S2x896x384, .f32⟩
  | 35 => ⟨S254, .i32⟩
  | 36 => ⟨S_, .i32⟩
  | 37 => ⟨S254, .i32⟩
  | 38 => ⟨S254, .i32⟩
  | 39 => ⟨S254, .f32⟩
  | 40 => ⟨S_, .f32⟩
  | 41 => ⟨S254, .f32⟩
  | 42 => ⟨S254, .f32⟩
  | 43 => ⟨S2x896x384x1, .f32⟩
  | 44 => ⟨S1x1x1x254, .f32⟩
  | 45 => ⟨S2x896x384x254, .f32⟩
  | 46 => ⟨S2x896x384x254, .f32⟩
  | 47 => ⟨S2x896x384x254, .i1⟩
  | 48 => ⟨S2x896x384x254, .i32⟩
  | 49 => ⟨S_, .i32⟩
  | 50 => ⟨S2x896x384, .i32⟩
  | 51 => ⟨S_, .i32⟩
  | 52 => ⟨S2x896x384, .i32⟩
  | 53 => ⟨S2x896x384, .i32⟩
  | 54 => ⟨S_, .f32⟩
  | 55 => ⟨S2x896x384, .f32⟩
  | 56 => ⟨S2x896x384, .i1⟩
  | 57 => ⟨S_, .i32⟩
  | 58 => ⟨S_, .i32⟩
  | 59 => ⟨S2x896x384, .i32⟩
  | 60 => ⟨S2x896x384, .i32⟩
  | 61 => ⟨S_, .f32⟩
  | 62 => ⟨S2x896x384, .f32⟩
  | 63 => ⟨S2x896x384, .i1⟩
  | 64 => ⟨S_, .i32⟩
  | 65 => ⟨S_, .i32⟩
  | 66 => ⟨S2x896x384, .i32⟩
  | 67 => ⟨S2x896x384, .i32⟩
  | 68 => ⟨S2x896x384, .i32⟩
  | 69 => ⟨S_, .i32⟩
  | 70 => ⟨S2x896x384, .i32⟩
  | 71 => ⟨S2x896x384, .i1⟩
  | 72 => ⟨S2x896x384, .f32⟩
  | 73 => ⟨S_, .f32⟩
  | 74 => ⟨S2x896x384, .f32⟩
  | 75 => ⟨S2x896x384, .f32⟩
  | 76 => ⟨S_, .f32⟩
  | 77 => ⟨S2x896x384, .f32⟩
  | 78 => ⟨S2x896x384, .f32⟩
  | 79 => ⟨S2x896x384x1, .f32⟩
  | 80 => ⟨S2x896x384x32, .f32⟩
  | 81 => ⟨S2x896x384x32, .f32⟩
  | 82 => ⟨S_, .f32⟩
  | 83 => ⟨S_, .f32⟩
  | 84 => ⟨S_, .f32⟩
  | 85 => ⟨S2x896x384x32, .f32⟩
  | 86 => ⟨S2x896x384x32, .f32⟩
  | 87 => ⟨S_, .f32⟩
  | 88 => ⟨S2x896x384x32, .f32⟩
  | 89 => ⟨S2x896x384x32, .f32⟩
  | 90 => ⟨S_, .i32⟩
  | 91 => ⟨S2x896x384, .i32⟩
  | 92 => ⟨S2x896x384, .i32⟩
  | 93 => ⟨S_, .i32⟩
  | 94 => ⟨S_, .i32⟩
  | 95 => ⟨S_, .i32⟩
  | 96 => ⟨S2x896x384, .i32⟩
  | 97 => ⟨S2x896x384, .i32⟩
  | 98 => ⟨S_, .i32⟩
  | 99 => ⟨S2x896x384, .i32⟩
  | 100 => ⟨S2x896x384, .i32⟩
  | 101 => ⟨S2x896x384, .i8⟩
  | 102 => ⟨S1792x12288, .f32⟩
  | 103 => ⟨S12288x1792, .f32⟩
  | 104 => ⟨S12288x56x32, .f32⟩
  | 105 => ⟨S12288x56x32, .f32⟩
  | 106 => ⟨S_, .f32⟩
  | 107 => ⟨S12288x56, .f32⟩
  | 108 => ⟨S_, .f32⟩
  | 109 => ⟨S12288x56, .f32⟩
  | 110 => ⟨S12288x56, .f32⟩
  | 111 => ⟨S254, .i32⟩
  | 112 => ⟨S_, .i32⟩
  | 113 => ⟨S254, .i32⟩
  | 114 => ⟨S254, .i32⟩
  | 115 => ⟨S254, .f32⟩
  | 116 => ⟨S_, .f32⟩
  | 117 => ⟨S254, .f32⟩
  | 118 => ⟨S254, .f32⟩
  | 119 => ⟨S12288x56x1, .f32⟩
  | 120 => ⟨S1x1x254, .f32⟩
  | 121 => ⟨S12288x56x254, .f32⟩
  | 122 => ⟨S12288x56x254, .f32⟩
  | 123 => ⟨S12288x56x254, .i1⟩
  | 124 => ⟨S12288x56x254, .i32⟩
  | 125 => ⟨S_, .i32⟩
  | 126 => ⟨S12288x56, .i32⟩
  | 127 => ⟨S_, .i32⟩
  | _ => ⟨S2x896x12288, .bf16⟩

abbrev hbmTy0_1 (i : Nat) : BufTy := match i % 128 with
  | 0 => ⟨S12288x56, .i32⟩
  | 1 => ⟨S12288x56, .i32⟩
  | 2 => ⟨S_, .f32⟩
  | 3 => ⟨S12288x56, .f32⟩
  | 4 => ⟨S12288x56, .i1⟩
  | 5 => ⟨S_, .i32⟩
  | 6 => ⟨S_, .i32⟩
  | 7 => ⟨S12288x56, .i32⟩
  | 8 => ⟨S12288x56, .i32⟩
  | 9 => ⟨S_, .f32⟩
  | 10 => ⟨S12288x56, .f32⟩
  | 11 => ⟨S12288x56, .i1⟩
  | 12 => ⟨S_, .i32⟩
  | 13 => ⟨S_, .i32⟩
  | 14 => ⟨S12288x56, .i32⟩
  | 15 => ⟨S12288x56, .i32⟩
  | 16 => ⟨S12288x56, .i32⟩
  | 17 => ⟨S_, .i32⟩
  | 18 => ⟨S12288x56, .i32⟩
  | 19 => ⟨S12288x56, .i1⟩
  | 20 => ⟨S12288x56, .f32⟩
  | 21 => ⟨S_, .f32⟩
  | 22 => ⟨S12288x56, .f32⟩
  | 23 => ⟨S12288x56, .f32⟩
  | 24 => ⟨S_, .f32⟩
  | 25 => ⟨S12288x56, .f32⟩
  | 26 => ⟨S12288x56, .f32⟩
  | 27 => ⟨S12288x56x1, .f32⟩
  | 28 => ⟨S12288x56x32, .f32⟩
  | 29 => ⟨S12288x56x32, .f32⟩
  | 30 => ⟨S_, .f32⟩
  | 31 => ⟨S_, .f32⟩
  | 32 => ⟨S_, .f32⟩
  | 33 => ⟨S12288x56x32, .f32⟩
  | 34 => ⟨S12288x56x32, .f32⟩
  | 35 => ⟨S_, .f32⟩
  | 36 => ⟨S12288x56x32, .f32⟩
  | 37 => ⟨S12288x56x32, .f32⟩
  | 38 => ⟨S_, .i32⟩
  | 39 => ⟨S12288x56, .i32⟩
  | 40 => ⟨S12288x56, .i32⟩
  | 41 => ⟨S_, .i32⟩
  | 42 => ⟨S_, .i32⟩
  | 43 => ⟨S_, .i32⟩
  | 44 => ⟨S12288x56, .i32⟩
  | 45 => ⟨S12288x56, .i32⟩
  | 46 => ⟨S_, .i32⟩
  | 47 => ⟨S12288x56, .i32⟩
  | 48 => ⟨S12288x56, .i32⟩
  | 49 => ⟨S12288x56, .i8⟩
  | 50 => ⟨S1792x384, .i8⟩
  | 51 => ⟨S1792x12288, .f32⟩
  | 52 => ⟨S12288x1792, .f32⟩
  | 53 => ⟨S1792x12288, .fp8e5m2⟩
  | 54 => ⟨S12288x1792, .fp8e5m2⟩
  | _ => ⟨S2x896x12288, .bf16⟩

abbrev hbmTy (i : Nat) : BufTy := match i / 128 with
  | 0 => hbmTy0_0 i
  | 1 => hbmTy0_1 i
  | _ => ⟨S2x896x12288, .bf16⟩

abbrev bufTy : (tb : Table) → Fin (tcTables nBuf tb) → BufTy
  | .hbm, ⟨i, _⟩ => hbmTy i
  | .local _ .vmem, ⟨0, _⟩ => ⟨S1792x12288, .f32⟩
  | .local _ .vmem, ⟨1, _⟩ => ⟨S12288x1792, .f32⟩
  | .local _ .vmem, ⟨2, _⟩ => ⟨S1792x12288, .fp8e5m2⟩
  | .local _ .vmem, ⟨3, _⟩ => ⟨S12288x1792, .fp8e5m2⟩
  | _, _ => ⟨S2x896x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_call0_v0 : Ref sig .tc := ⟨.hbm, 58, rfl⟩
abbrev main_call0_v1 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_call1_v0 : Ref sig .tc := ⟨.hbm, 65, rfl⟩
abbrev main_call1_v1 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_call2_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_cst_15 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v57 : Ref sig .tc := ⟨.hbm, 89, rfl⟩
abbrev main_c_16 : Ref sig .tc := ⟨.hbm, 90, rfl⟩
abbrev main_v58 : Ref sig .tc := ⟨.hbm, 91, rfl⟩
abbrev main_v59 : Ref sig .tc := ⟨.hbm, 92, rfl⟩
abbrev main_c_17 : Ref sig .tc := ⟨.hbm, 93, rfl⟩
abbrev main_c_18 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_19 : Ref sig .tc := ⟨.hbm, 106, rfl⟩
abbrev main_v66 : Ref sig .tc := ⟨.hbm, 107, rfl⟩
abbrev main_cst_20 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_21 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_22 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_23 : Ref sig .tc := ⟨.hbm, 125, rfl⟩
abbrev main_v81 : Ref sig .tc := ⟨.hbm, 126, rfl⟩
abbrev main_c_24 : Ref sig .tc := ⟨.hbm, 127, rfl⟩
abbrev main_v82 : Ref sig .tc := ⟨.hbm, 128, rfl⟩
abbrev main_v83 : Ref sig .tc := ⟨.hbm, 129, rfl⟩
abbrev main_cst_25 : Ref sig .tc := ⟨.hbm, 130, rfl⟩
abbrev main_v84 : Ref sig .tc := ⟨.hbm, 131, rfl⟩
abbrev main_v85 : Ref sig .tc := ⟨.hbm, 132, rfl⟩
abbrev main_c_26 : Ref sig .tc := ⟨.hbm, 133, rfl⟩
abbrev main_call5_v0 : Ref sig .tc := ⟨.hbm, 134, rfl⟩
abbrev main_call5_v1 : Ref sig .tc := ⟨.hbm, 135, rfl⟩
abbrev main_v86 : Ref sig .tc := ⟨.hbm, 136, rfl⟩
abbrev main_cst_27 : Ref sig .tc := ⟨.hbm, 137, rfl⟩
abbrev main_v87 : Ref sig .tc := ⟨.hbm, 138, rfl⟩
abbrev main_v88 : Ref sig .tc := ⟨.hbm, 139, rfl⟩
abbrev main_c_28 : Ref sig .tc := ⟨.hbm, 140, rfl⟩
abbrev main_call6_v0 : Ref sig .tc := ⟨.hbm, 141, rfl⟩
abbrev main_call6_v1 : Ref sig .tc := ⟨.hbm, 142, rfl⟩
abbrev main_v89 : Ref sig .tc := ⟨.hbm, 143, rfl⟩
abbrev main_v90 : Ref sig .tc := ⟨.hbm, 144, rfl⟩
abbrev main_c_29 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_30 : Ref sig .tc := ⟨.hbm, 149, rfl⟩
abbrev main_v94 : Ref sig .tc := ⟨.hbm, 150, rfl⟩
abbrev main_v95 : Ref sig .tc := ⟨.hbm, 151, rfl⟩
abbrev main_cst_31 : Ref sig .tc := ⟨.hbm, 152, rfl⟩
abbrev main_call7_v0 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_32 : Ref sig .tc := ⟨.hbm, 158, rfl⟩
abbrev main_cst_33 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_v100 : Ref sig .tc := ⟨.hbm, 165, rfl⟩
abbrev main_c_34 : Ref sig .tc := ⟨.hbm, 166, rfl⟩
abbrev main_v101 : Ref sig .tc := ⟨.hbm, 167, rfl⟩
abbrev main_v102 : Ref sig .tc := ⟨.hbm, 168, rfl⟩
abbrev main_c_35 : Ref sig .tc := ⟨.hbm, 169, rfl⟩
abbrev main_c_36 : Ref sig .tc := ⟨.hbm, 170, rfl⟩
abbrev main_call9_v0 : Ref sig .tc := ⟨.hbm, 171, rfl⟩
abbrev main_call9_v1 : Ref sig .tc := ⟨.hbm, 172, rfl⟩
abbrev main_call9_v2 : Ref sig .tc := ⟨.hbm, 173, rfl⟩
abbrev main_call9_v3 : Ref sig .tc := ⟨.hbm, 174, rfl⟩
abbrev main_call9_v4 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108_0 : Ref sig .tc := ⟨.hbm, 181, rfl⟩
abbrev main_v108_1 : Ref sig .tc := ⟨.hbm, 182, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1792x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x12288 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1792 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelSetup.lean ====
/- What the proofs about one grid point of Kernel are stated over: the two conditions of the body in closed form (the
   first point, the last point), the staging memrefs the body is handed at a point, the scratch memrefs, and the region's
   invariant with each scratch buffer owned at some contents. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The condition of the body's first `scf.if`: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    have h : t.val = 0 ↔ t.val % 14 = 0 := by omega
    rw [h]
    word_cmp
   : ∀ t : Fin grid0.N, cond0_0 (grid0.coords t) ↔ t.val = 0)

/-- The condition of the body's second `scf.if`: the grid coordinate is 13. -/
abbrev cond0_1 (i : grid0.Coords) : Prop := k0_cond2 i = 1#1
/-- It holds at the last point only. -/
theorem hcond0_1 : ∀ t : Fin cfg0.N, cond0_1 (grid0.coords t) ↔ t.val = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    have h : t.val = 13 ↔ t.val % 14 = 13 := by omega
    rw [h]
    word_cmp
   : ∀ t : Fin grid0.N, cond0_1 (grid0.coords t) ↔ t.val = 13)

/-- Window 0's staging memref at point `t`, and that it is a whole buffer. -/
abbrev ms0_0 (t : Fin cfg0.N) : Memref sig .tc .vmem S128x12288 .bf16 := win0_0.stage (cfg0.slots t 0)
/-- Window 0's staging memref at a point is a whole buffer. -/
abbrev hs0_0 (t : Fin cfg0.N) : (ms0_0 t).IsWhole := hstage0_0 ((cfg0.slots t 0).cast nbuf0_0)
/-- Window 1's staging memref at point `t`, and that it is a whole buffer. -/
abbrev ms0_1 (t : Fin cfg0.N) : Memref sig .tc .vmem S128x12288 .bf16 := win0_1.stage (cfg0.slots t 1)
/-- Window 1's staging memref at a point is a whole buffer. -/
abbrev hs0_1 (t : Fin cfg0.N) : (ms0_1 t).IsWhole := hstage0_1 ((cfg0.slots t 1).cast nbuf0_1)
/-- Window 2's staging memref at point `t`, and that it is a whole buffer. -/
abbrev ms0_2 (t : Fin cfg0.N) : Memref sig .tc .vmem S1x12288 .f32 := win0_2.stage (cfg0.slots t 2)
/-- Window 2's staging memref at a point is a whole buffer. -/
abbrev hs0_2 (t : Fin cfg0.N) : (ms0_2 t).IsWhole := hstage0_2 ((cfg0.slots t 2).cast nbuf0_2)
/-- Window 3's staging memref at point `t`, and that it is a whole buffer. -/
abbrev ms0_3 (t : Fin cfg0.N) : Memref sig .tc .vmem S1x1x128 .f32 := win0_3.stage (cfg0.slots t 3)
/-- Window 3's staging memref at a point is a whole buffer. -/
abbrev hs0_3 (t : Fin cfg0.N) : (ms0_3 t).IsWhole := hstage0_3 ((cfg0.slots t 3).cast nbuf0_3)
/-- Window 4's staging memref at point `t`, and that it is a whole buffer. -/
abbrev ms0_4 (t : Fin cfg0.N) : Memref sig .tc .vmem S1x12288 .f32 := win0_4.stage (cfg0.slots t 4)
/-- Window 4's staging memref at a point is a whole buffer. -/
abbrev hs0_4 (t : Fin cfg0.N) : (ms0_4 t).IsWhole := hstage0_4 ((cfg0.slots t 4).cast nbuf0_4)
/-- Window 5's staging memref at point `t`, and that it is a whole buffer. -/
abbrev ms0_5 (t : Fin cfg0.N) : Memref sig .tc .vmem S128x12288 .fp8e5m2 := win0_5.stage (cfg0.slots t 5)
/-- Window 5's staging memref at a point is a whole buffer. -/
abbrev hs0_5 (t : Fin cfg0.N) : (ms0_5 t).IsWhole := hstage0_5 ((cfg0.slots t 5).cast nbuf0_5)
/-- Window 6's staging memref at point `t`, and that it is a whole buffer. -/
abbrev ms0_6 (t : Fin cfg0.N) : Memref sig .tc .vmem S128x384 .i8 := win0_6.stage (cfg0.slots t 6)
/-- Window 6's staging memref at a point is a whole buffer. -/
abbrev hs0_6 (t : Fin cfg0.N) : (ms0_6 t).IsWhole := hstage0_6 ((cfg0.slots t 6).cast nbuf0_6)
/-- Window 7's staging memref at point `t`, and that it is a whole buffer. -/
abbrev ms0_7 (t : Fin cfg0.N) : Memref sig .tc .vmem S12288x128 .fp8e5m2 := win0_7.stage (cfg0.slots t 7)
/-- Window 7's staging memref at a point is a whole buffer. -/
abbrev hs0_7 (t : Fin cfg0.N) : (ms0_7 t).IsWhole := hstage0_7 ((cfg0.slots t 7).cast nbuf0_7)
/-- Window 8's staging memref at point `t`, and that it is a whole buffer. -/
abbrev ms0_8 (t : Fin cfg0.N) : Memref sig .tc .vmem S12288x56 .i8 := win0_8.stage (cfg0.slots t 8)
/-- Window 8's staging memref at a point is a whole buffer. -/
abbrev hs0_8 (t : Fin cfg0.N) : (ms0_8 t).IsWhole := hstage0_8 ((cfg0.slots t 8).cast nbuf0_8)
/-- The scratch buffers, as memrefs. -/
abbrev scM0_0 : Memref sig .tc .vmem S96x4x128 .i32 := Memref.whole cc0_scratch0
/-- The scratch buffer of rstd, spread. -/
abbrev scM0_1 : Memref sig .tc .vmem S128x128 .f32 := Memref.whole cc0_scratch1
/-- The scratch buffer of the accumulator and the mean. -/
abbrev scM0_2 : Memref sig .tc .vmem S128x128 .f32 := Memref.whole cc0_scratch2
/-- The scratch buffer of the partial rows of dgamma. -/
abbrev scM0_3 : Memref sig .tc .vmem S8x12288 .f32 := Memref.whole cc0_scratch3
/-- The scratch buffer of the column scale codes. -/
abbrev scM0_4 : Memref sig .tc .vmem S14x4x12288 .i32 := Memref.whole cc0_scratch4

/-- The region's invariant: every scratch buffer owned at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KernelFrame.lean ====
/- The kernel as compiled runs to the end, faults nowhere, leaves its arguments and the semaphore counters as they were.
   Nothing is said here of what it computes: every output window is forgotten, and one statement about the body serves
   every grid point. -/
module

public import proofs.«01_k».proof.Proof.KernelSetup

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body at any grid point: on inputs held at any contents, and on outputs and scratch buffers holding anything, it
    runs to the end, leaves the inputs as they were, and every other buffer at some contents. -/
theorem bodyRun (c : Dev nD) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S1x1x128 .f32) (harg4 : arg4.IsWhole) (arg5 : Memref sig .tc .vmem S1x12288 .f32) (harg5 : arg5.IsWhole) (arg6 : Memref sig .tc .vmem S128x12288 .fp8e5m2) (harg6 : arg6.IsWhole) (arg7 : Memref sig .tc .vmem S128x384 .i8) (harg7 : arg7.IsWhole) (arg8 : Memref sig .tc .vmem S12288x128 .fp8e5m2) (harg8 : arg8.IsWhole) (arg9 : Memref sig .tc .vmem S12288x56 .i8) (harg9 : arg9.IsWhole) (arg10 : Memref sig .tc .vmem S96x4x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x12288 .f32) (harg13 : arg13.IsWhole) (arg14 : Memref sig .tc .vmem S14x4x12288 .i32) (harg14 : arg14.IsWhole)
    (x0 : Vec F S128x12288 .bf16) (x1 : Vec F S128x12288 .bf16) (x2 : Vec F S1x12288 .f32) (x3 : Vec F S1x1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_rmsnorm_bwd_mx i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_bwd_mx_eq_skeleton]; unfold cc0_rmsnorm_bwd_mx_skel
  simp only [k0_part6_eq_skeleton]
  by_cases hc0 : cond0_0 i <;> by_cases hc1 : cond0_1 i
  all_goals
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

variable (m : (ℓ : Loc nD τ sig) → Buf (Elt F) ℓ) (ρ : Dev nD → PrngReg)

/-- The output windows, of which nothing is said. -/
def fgt : Fin cfg0.W → Bool
  | ⟨0, _⟩ => false | ⟨1, _⟩ => false | ⟨2, _⟩ => false | ⟨3, _⟩ => false | ⟨4, _⟩ => true | ⟨5, _⟩ => true
  | ⟨6, _⟩ => true | ⟨7, _⟩ => true | ⟨8, _⟩ => true

/-- The proof data: each input's buffer holds its block after the body, as before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
    | ⟨5, _⟩ => Dat.unnamed 5 t
    | ⟨6, _⟩ => Dat.unnamed 6 t
    | ⟨7, _⟩ => Dat.unnamed 7 t
    | ⟨8, _⟩ => Dat.unnamed 8 t
  Φ _ := Pipeline.ΦA spec0 c
  q _ := fullShare
  owed _ := 0

/-- The array of a window at the launch is the host value it is given. -/
theorem A_eq (c : Dev nD) (w : Fin cfg0.W) : (dats m 0 c).A w = V m c (Pipeline.arrRef spec0 w) := by
  dsimp only [dats]

/-- What window 0 (x) holds after a point. -/
theorem after0_0 (c : Dev nD) (t : Fin cfg0.N) : (dats m 0 c).after 0 t = iblk m c 0 t := by dsimp only [dats]
/-- What window 1 (dy) holds after a point. -/
theorem after0_1 (c : Dev nD) (t : Fin cfg0.N) : (dats m 0 c).after 1 t = iblk m c 1 t := by dsimp only [dats]
/-- What window 2 (gamma) holds after a point. -/
theorem after0_2 (c : Dev nD) (t : Fin cfg0.N) : (dats m 0 c).after 2 t = iblk m c 2 t := by dsimp only [dats]
/-- What window 3 (rstd) holds after a point. -/
theorem after0_3 (c : Dev nD) (t : Fin cfg0.N) : (dats m 0 c).after 3 t = iblk m c 3 t := by dsimp only [dats]
/-- What window 0 (x) holds before a point: its block. -/
theorem before0_0 (c : Dev nD) (t : Fin cfg0.N) (d) : (dats m 0 c).before 0 t d = iblk m c 0 t :=
  before0_0_of m (dats m 0 c) (A_eq m c 0) (after0_0 m c) t d
/-- What window 1 (dy) holds before a point: its block. -/
theorem before0_1 (c : Dev nD) (t : Fin cfg0.N) (d) : (dats m 0 c).before 1 t d = iblk m c 1 t :=
  before0_1_of m (dats m 0 c) (A_eq m c 1) (after0_1 m c) t d
/-- What window 2 (gamma) holds before a point: its block. -/
theorem before0_2 (c : Dev nD) (t : Fin cfg0.N) (d) : (dats m 0 c).before 2 t d = iblk m c 2 t :=
  before0_2_of m (dats m 0 c) (A_eq m c 2) (after0_2 m c) t d
/-- What window 3 (rstd) holds before a point: its block. -/
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X))

set_option maxHeartbeats 4000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, H4, H5, H6, H7, H8⟩
  iapply (bodyRun c (grid0.coords t) _ _ _ _ _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body that the launch runs at a point is the body with that point's buffers. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: every execution ends, with every counter at zero, the input arrays and every buffer no window stages as the
    region found them. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.Kernel.Hand

end
-- ==== Proof.KernelIdealSetup.lean ====
/- What the proofs about one grid point of KernelIdeal are stated over: the two conditions of the body in closed form (the
   first point, the last point), the staging memrefs the body is handed at a point, the scratch memrefs, and the region's
   invariant with each scratch buffer owned at some contents. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's first `scf.if`: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    have h : t.val = 0 ↔ t.val % 14 = 0 := by omega
    rw [h]
    word_cmp
   : ∀ t : Fin grid0.N, cond0_0 (grid0.coords t) ↔ t.val = 0)

/-- The condition of the body's second `scf.if`: the grid coordinate is 13. -/
abbrev cond0_1 (i : grid0.Coords) : Prop := k0_cond2 i = 1#1
/-- It holds at the last point only. -/
theorem hcond0_1 : ∀ t : Fin cfg0.N, cond0_1 (grid0.coords t) ↔ t.val = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    have h : t.val = 13 ↔ t.val % 14 = 13 := by omega
    rw [h]
    word_cmp
   : ∀ t : Fin grid0.N, cond0_1 (grid0.coords t) ↔ t.val = 13)

/-- Window 0's staging memref at point `t`, and that it is a whole buffer. -/
abbrev ms0_0 (t : Fin cfg0.N) : Memref sig .tc .vmem S128x12288 .bf16 := win0_0.stage (cfg0.slots t 0)
/-- Window 0's staging memref at a point is a whole buffer. -/
abbrev hs0_0 (t : Fin cfg0.N) : (ms0_0 t).IsWhole := hstage0_0 ((cfg0.slots t 0).cast nbuf0_0)
/-- Window 1's staging memref at point `t`, and that it is a whole buffer. -/
abbrev ms0_1 (t : Fin cfg0.N) : Memref sig .tc .vmem S128x12288 .bf16 := win0_1.stage (cfg0.slots t 1)
/-- Window 1's staging memref at a point is a whole buffer. -/
abbrev hs0_1 (t : Fin cfg0.N) : (ms0_1 t).IsWhole := hstage0_1 ((cfg0.slots t 1).cast nbuf0_1)
/-- Window 2's staging memref at point `t`, and that it is a whole buffer. -/
abbrev ms0_2 (t : Fin cfg0.N) : Memref sig .tc .vmem S1x12288 .f32 := win0_2.stage (cfg0.slots t 2)
/-- Window 2's staging memref at a point is a whole buffer. -/
abbrev hs0_2 (t : Fin cfg0.N) : (ms0_2 t).IsWhole := hstage0_2 ((cfg0.slots t 2).cast nbuf0_2)
/-- Window 3's staging memref at point `t`, and that it is a whole buffer. -/
abbrev ms0_3 (t : Fin cfg0.N) : Memref sig .tc .vmem S1x1x128 .f32 := win0_3.stage (cfg0.slots t 3)
/-- Window 3's staging memref at a point is a whole buffer. -/
abbrev hs0_3 (t : Fin cfg0.N) : (ms0_3 t).IsWhole := hstage0_3 ((cfg0.slots t 3).cast nbuf0_3)
/-- Window 4's staging memref at point `t`, and that it is a whole buffer. -/
abbrev ms0_4 (t : Fin cfg0.N) : Memref sig .tc .vmem S1x12288 .f32 := win0_4.stage (cfg0.slots t 4)
/-- Window 4's staging memref at a point is a whole buffer. -/
abbrev hs0_4 (t : Fin cfg0.N) : (ms0_4 t).IsWhole := hstage0_4 ((cfg0.slots t 4).cast nbuf0_4)
/-- Window 5's staging memref at point `t`, and that it is a whole buffer. -/
abbrev ms0_5 (t : Fin cfg0.N) : Memref sig .tc .vmem S128x12288 .fp8e5m2 := win0_5.stage (cfg0.slots t 5)
/-- Window 5's staging memref at a point is a whole buffer. -/
abbrev hs0_5 (t : Fin cfg0.N) : (ms0_5 t).IsWhole := hstage0_5 ((cfg0.slots t 5).cast nbuf0_5)
/-- Window 6's staging memref at point `t`, and that it is a whole buffer. -/
abbrev ms0_6 (t : Fin cfg0.N) : Memref sig .tc .vmem S128x384 .i8 := win0_6.stage (cfg0.slots t 6)
/-- Window 6's staging memref at a point is a whole buffer. -/
abbrev hs0_6 (t : Fin cfg0.N) : (ms0_6 t).IsWhole := hstage0_6 ((cfg0.slots t 6).cast nbuf0_6)
/-- Window 7's staging memref at point `t`, and that it is a whole buffer. -/
abbrev ms0_7 (t : Fin cfg0.N) : Memref sig .tc .vmem S12288x128 .fp8e5m2 := win0_7.stage (cfg0.slots t 7)
/-- Window 7's staging memref at a point is a whole buffer. -/
abbrev hs0_7 (t : Fin cfg0.N) : (ms0_7 t).IsWhole := hstage0_7 ((cfg0.slots t 7).cast nbuf0_7)
/-- Window 8's staging memref at point `t`, and that it is a whole buffer. -/
abbrev ms0_8 (t : Fin cfg0.N) : Memref sig .tc .vmem S12288x56 .i8 := win0_8.stage (cfg0.slots t 8)
/-- Window 8's staging memref at a point is a whole buffer. -/
abbrev hs0_8 (t : Fin cfg0.N) : (ms0_8 t).IsWhole := hstage0_8 ((cfg0.slots t 8).cast nbuf0_8)
/-- The scratch buffers, as memrefs. -/
abbrev scM0_0 : Memref sig .tc .vmem S96x4x128 .i32 := Memref.whole cc0_scratch0
/-- The scratch buffer of rstd, spread. -/
abbrev scM0_1 : Memref sig .tc .vmem S128x128 .f32 := Memref.whole cc0_scratch1
/-- The scratch buffer of the accumulator and the mean. -/
abbrev scM0_2 : Memref sig .tc .vmem S128x128 .f32 := Memref.whole cc0_scratch2
/-- The scratch buffer of the partial rows of dgamma. -/
abbrev scM0_3 : Memref sig .tc .vmem S8x12288 .f32 := Memref.whole cc0_scratch3
/-- The scratch buffer of the column scale codes. -/
abbrev scM0_4 : Memref sig .tc .vmem S14x4x12288 .i32 := Memref.whole cc0_scratch4

/-- The region's invariant: every scratch buffer owned at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Tiles.lean ====
/- What one grid point of the idealized kernel computes, as functions of the blocks it reads: the terms of the mean and of
   dgamma, the block of dx, the codes and the scale codes. The kernel's own payloads, applied to 128-column slices. -/
module

public import proofs.«01_k».proof.Proof.KernelIdealSetup
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Column `l` of the `j`-th slice of 128 columns. -/
def col (j : Fin 96) (l : Fin 128) : Fin 12288 := ⟨128 * j.val + l.val, by omega⟩
/-- The slice a column lies in, -/
def jOf (L : Fin 12288) : Fin 96 := ⟨L.val / 128, by omega⟩
/-- and its place there. -/
def lOf (L : Fin 12288) : Fin 128 := ⟨L.val % 128, by omega⟩

/-- The column of the slice and lane of `L` is `L`. -/
@[simp] theorem col_jl (L : Fin 12288) : col (jOf L) (lOf L) = L := Fin.ext (Nat.div_add_mod L.val 128)
/-- The slice of a column. -/
@[simp] theorem jOf_col (j : Fin 96) (l : Fin 128) : jOf (col j l) = j := Fin.ext (by simp only [jOf, col]; omega)
/-- The lane of a column. -/
@[simp] theorem lOf_col (j : Fin 96) (l : Fin 128) : lOf (col j l) = l := Fin.ext (by simp only [lOf, col]; omega)

/-- A slice of 128 columns of an array of rows. -/
def slice2 {n : ℕ} {α : Type} (X : (⟨2, ![n, 12288]⟩ : Shape).Idx → α) (j : Fin 96) : (⟨2, ![n, 128]⟩ : Shape).Idx → α :=
  fun y => X (ix2 (y 0) (col j (y 1)))
/-- A slice of 128 columns of an array of matrices. -/
def slice3 {n k : ℕ} {α : Type} (X : (⟨3, ![n, k, 12288]⟩ : Shape).Idx → α) (j : Fin 96) : (⟨3, ![n, k, 128]⟩ : Shape).Idx → α :=
  fun y => X (ix3 (y 0) (y 1) (col j (y 2)))

/-- The terms of the mean, accumulated over the first `k` slices. -/
def acc (x0 x1 : Vec F S128x12288 .bf16) (x2 : Vec F S1x12288 .f32) (rb : Vec F S128x128 .f32) : ℕ → Vec F S128x128 .f32
  | 0 => k0_pay26
  | k + 1 => if h : k < 96 then k0_pay29 (slice2 x0 ⟨k, h⟩) (slice2 x1 ⟨k, h⟩) (slice2 x2 ⟨k, h⟩) rb (acc x0 x1 x2 rb k)
      else acc x0 x1 x2 rb k

/-- The mean of every row, at every column of the row. -/
def meanB (x0 x1 : Vec F S128x12288 .bf16) (x2 : Vec F S1x12288 .f32) (x3 : Vec F S1x1x128 .f32) : Vec F S128x128 .f32 :=
  k0_pay31 (acc x0 x1 x2 (k0_pay25 x3) 96)

/-- The accumulated terms of dgamma after the point, from what they were before it. -/
def dgaNext (x0 x1 : Vec F S128x12288 .bf16) (x3 : Vec F S1x1x128 .f32) (D : Vec F S8x12288 .f32) : Vec F S8x12288 .f32 := fun y =>
  k0_pay30 (slice2 x0 (jOf (y 1))) (slice2 x1 (jOf (y 1))) (k0_pay25 x3) (slice2 D (jOf (y 1))) (ix2 (y 0) (lOf (y 1)))

section Slice
variable (X Y : Vec F S128x128 .bf16) (G : Vec F S1x128 .f32) (rb mn : Vec F S128x128 .f32)

/-- The greatest code exponent's argument of every block of 32 rows, and the first bits of its search. -/
def q60 := k0_pay6 X Y G rb mn
/-- What the search for the column exponents has found after two steps. -/
def q75 : IVec S4x128 32 := k0_pay7 X Y G rb mn
/-- What the search for the column exponents tries next. -/
def q77 : IVec S4x128 32 := k0_pay8 X Y G rb mn
/-- The column scale codes of a slice. -/
def ecolS : IVec S1x4x128 32 :=
  k0_pay13 (k0_pay9 (q60 X Y G rb mn) (q75 X Y G rb mn) (q77 X Y G rb mn)) (k0_pay10 (q60 X Y G rb mn) (q75 X Y G rb mn) (q77 X Y G rb mn)) k0_pay11
/-- The column codes of a slice, transposed. -/
def ccS : FVec F S128x128 .fp8e5m2 :=
  k0_pay14 (k0_pay4 X Y G rb mn) (k0_pay9 (q60 X Y G rb mn) (q75 X Y G rb mn) (q77 X Y G rb mn)) (k0_pay10 (q60 X Y G rb mn) (q75 X Y G rb mn) (q77 X Y G rb mn)) k0_pay11
/-- The arguments of the row exponents of a slice, transposed. -/
def q160 := k0_pay15 (k0_pay5 X Y G rb mn)
/-- What the search for the row exponents has found after seven steps. -/
def q210 : IVec S4x128 32 := k0_pay19 (q160 X Y G rb mn) k0_pay16 k0_pay17 (k0_pay18 (F := F))
/-- What the search for the row exponents tries next. -/
def q212 : IVec S4x128 32 := k0_pay20 (q160 X Y G rb mn) k0_pay16 k0_pay17 (k0_pay18 (F := F))
/-- The row scale codes of a slice, transposed. -/
def erowS : IVec S1x4x128 32 := k0_pay22 (q160 X Y G rb mn) (q210 X Y G rb mn) (q212 X Y G rb mn) 23#32
/-- The row codes of a slice. -/
def crS : FVec F S128x128 .fp8e5m2 := k0_pay23 (k0_pay4 X Y G rb mn) (q160 X Y G rb mn) (q210 X Y G rb mn) (q212 X Y G rb mn) 23#32
end Slice

variable (x0 x1 : Vec F S128x12288 .bf16) (x2 : Vec F S1x12288 .f32) (x3 : Vec F S1x1x128 .f32)

/-- The row codes of the point's block. -/
def crB : Vec F S128x12288 .fp8e5m2 := fun y =>
  crS (slice2 x0 (jOf (y 1))) (slice2 x1 (jOf (y 1))) (slice2 x2 (jOf (y 1))) (k0_pay25 x3) (meanB x0 x1 x2 x3) (ix2 (y 0) (lOf (y 1)))
/-- The column codes of the point's block. -/
def ccB : Vec F S12288x128 .fp8e5m2 := fun y =>
  ccS (slice2 x0 (jOf (y 0))) (slice2 x1 (jOf (y 0))) (slice2 x2 (jOf (y 0))) (k0_pay25 x3) (meanB x0 x1 x2 x3) (ix2 (lOf (y 0)) (y 1))
/-- The row scale codes of the point's block, as words. -/
def erB : Vec F S96x4x128 .i32 := fun y =>
  erowS (slice2 x0 (y 0)) (slice2 x1 (y 0)) (slice2 x2 (y 0)) (k0_pay25 x3) (meanB x0 x1 x2 x3) (ix3 (0 : Fin 1) (y 1) (y 2))
/-- The row scale codes of the point's block. -/
def srB : Vec F S128x384 .i8 := k0_pay1 (erB x0 x1 x2 x3)
/-- The column scale codes of all blocks after point `i`: its row is written, the rest as before. -/
def ecNext (i : Fin 14) (E : Vec F S14x4x12288 .i32) : Vec F S14x4x12288 .i32 := fun y =>
  if (y 0).val = i.val then
    ecolS (slice2 x0 (jOf (y 2))) (slice2 x1 (jOf (y 2))) (slice2 x2 (jOf (y 2))) (k0_pay25 x3) (meanB x0 x1 x2 x3) (ix3 (0 : Fin 1) (y 1) (lOf (y 2)))
  else E y
/-- The column scale codes of the whole array. -/
def scB (E : Vec F S14x4x12288 .i32) : Vec F S12288x56 .i8 := fun y => k0_pay3 (slice3 E (jOf (y 0))) (ix2 (lOf (y 0)) (y 1))

end Cert.KernelIdeal.Hand

end
-- ==== Proof.LoopTrips.lean ====
/- What every buffer of the idealized kernel holds after each of its counted loops, in terms of the tile functions: each
   trip's stores listed, then the loop's stores read back one slice at a time. -/
module

public import proofs.«01_k».proof.Proof.Tiles

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open View

/-- Stores through pairwise disjoint rectangles, one per trip: after `k` trips the rectangle of an earlier trip holds that
    trip's payload, and that of a later trip what it held before. -/
theorem read_tiles {sp : Space} {s : Shape} {e : EltTy} (v : View sig .tc sp s e) (G : BufTy.Contents (Elt F) v.ty) {T : ℕ} (size : Fin s.rank → ℕ)
    (R : Fin T → Fin s.rank → ℕ) (inb : ∀ k a, R k a + size a ≤ s.size a)
    (p : ∀ k : Fin T, (⟨s.rank, size⟩ : Shape).Idx → Elt F e) (L : ℕ → List (View.Piece (Elt F) s e)) (h0 : L 0 = [])
    (hs : ∀ k : Fin T, L (k.val + 1) = ⟨Rect.unit (R k) size (inb k), p k⟩ :: L k.val)
    (a : Fin s.rank) (hd : ∀ j k : Fin T, j ≠ k → R j a + size a ≤ R k a ∨ R k a + size a ≤ R j a) (k : ℕ) (hk : k ≤ T) (j : Fin T)
    (z : (⟨s.rank, size⟩ : Shape).Idx) :
    v.read (Elt F) (v.writes (Elt F) G (L k)) ((Rect.unit (R j) size (inb j)).emb z)
      = if j.val < k then p j z else v.read (Elt F) G ((Rect.unit (R j) size (inb j)).emb z) := by
  induction k with
  | zero => rw [h0, View.writes_nil, if_neg (Nat.not_lt_zero _)]
  | succ n ih =>
    have ih := ih (by omega)
    have hs' := hs ⟨n, by omega⟩
    rw [hs']
    by_cases hj : j.val = n
    · subst hj
      rw [if_pos (by omega)]
      exact View.read_writes_cons_emb v G (Rect.unit (R j) size (inb j)) (p j) (L j.val) z
    · rw [View.read_writes_cons_miss_of_axis v G _ _ _ a (R ⟨n, by omega⟩ a) (size a) rfl rfl rfl
        (by
          have := hd j ⟨n, by omega⟩ (fun h => hj (congrArg Fin.val h))
          have hz : (z a).val < size a := (z a).isLt
          have e : ((Rect.unit (R j) size (inb j)).emb z a).val = R j a + 1 * (z a).val := rfl
          rw [e]; omega)]
      rw [ih]
      by_cases hlt : j.val < n
      · rw [if_pos hlt, if_pos (by omega)]
      · rw [if_neg hlt, if_neg (by omega)]

/-- A place no rectangle of the trips holds, held as before. -/
theorem read_tiles_miss {sp : Space} {s : Shape} {e : EltTy} (v : View sig .tc sp s e) (G : BufTy.Contents (Elt F) v.ty) {T : ℕ} (size : Fin s.rank → ℕ)
    (R : Fin T → Fin s.rank → ℕ) (inb : ∀ k a, R k a + size a ≤ s.size a)
    (p : ∀ k : Fin T, (⟨s.rank, size⟩ : Shape).Idx → Elt F e) (L : ℕ → List (View.Piece (Elt F) s e)) (h0 : L 0 = [])
    (hs : ∀ k : Fin T, L (k.val + 1) = ⟨Rect.unit (R k) size (inb k), p k⟩ :: L k.val)
    (y : s.Idx) (a : Fin s.rank) (hd : ∀ k : Fin T, (y a).val < R k a ∨ R k a + size a ≤ (y a).val) (k : ℕ) (hk : k ≤ T) :
    v.read (Elt F) (v.writes (Elt F) G (L k)) y = v.read (Elt F) G y := by
  induction k with
  | zero => rw [h0, View.writes_nil]
  | succ n ih =>
    rw [hs ⟨n, by omega⟩, View.read_writes_cons_miss_of_axis v G _ _ _ a (R ⟨n, by omega⟩ a) (size a) rfl rfl rfl (hd _)]
    exact ih (by omega)

/-- The first loop makes 96 trips. -/
theorem trips1 : k0_t1_loop.trips = 96 := by decide +kernel
/-- The second loop makes 96 trips. -/
theorem trips2 : k0_t2_loop.trips = 96 := by decide +kernel
/-- The last loop makes 96 trips. -/
theorem trips3 : k0_t3_loop.trips = 96 := by decide +kernel
/-- A trip reads or writes the columns of its own slice. -/
theorem off1_eq : ∀ k, k0_off1 k = ![0, 128 * k.val] := by decide +kernel
/-- A trip reads or writes the columns of its own slice. -/
theorem off2_eq : ∀ k, k0_off2 k = ![0, 128 * k.val] := by decide +kernel
/-- A trip reads or writes the columns of its own slice. -/
theorem off3_eq : ∀ k, k0_off3 k = ![0, 128 * k.val] := by decide +kernel
/-- A trip reads or writes the columns of its own slice. -/
theorem off4_eq : ∀ k, k0_off4 k = ![0, 128 * k.val] := by decide +kernel
/-- A trip reads or writes the columns of its own slice. -/
theorem off5_eq : ∀ k, k0_off5 k = ![0, 128 * k.val] := by decide +kernel
/-- A trip writes the rows of its own slice in the column codes. -/
theorem off7_eq : ∀ k, k0_off7 k = ![128 * k.val, 0] := by decide +kernel
/-- A trip writes its own plane of the row scale codes. -/
theorem off8_eq : ∀ k, k0_off8 k = ![k.val, 0, 0] := by decide +kernel
/-- A trip of the last loop reads the columns of its own slice, of every point. -/
theorem off9_eq : ∀ k, k0_off9 k = ![0, 0, 128 * k.val] := by decide +kernel
/-- A trip of the last loop writes the rows of its own slice in the column scale codes. -/
theorem off10_eq : ∀ k, k0_off10 k = ![128 * k.val, 0] := by decide +kernel
/-- A trip at point `i` writes the point's plane and its own slice of the column scale codes. -/
theorem off6_eq (i : grid0.Coords) (k) : k0_off6 i k = ![(i 0).val, 0, 128 * k.val] := by
  have h : ∀ i0 : Fin 14, ∀ k : Fin k0_t2_loop.trips, k0_off6 (fun | 0 => i0) k = ![i0.val, 0, 128 * k.val] := by decide +kernel
  have e : i = (fun | 0 => i 0) := by funext a; have : a = 0 := Subsingleton.elim _ _; subst this; rfl
  rw [e]; exact h (i 0) k

/-- A unit-stride slice of columns, read element by element. -/
theorem emb_cols {n : ℕ} (off : Fin 2 → ℕ) (inb : ∀ a, off a + (![n, 128] : Fin 2 → ℕ) a ≤ (![n, 12288] : Fin 2 → ℕ) a) (j : Fin 96)
    (h : off = ![0, 128 * j.val]) (z : (⟨2, ![n, 128]⟩ : Shape).Idx) :
    (Rect.unit (s := ⟨2, ![n, 12288]⟩) off ![n, 128] inb).emb z = ix2 (z 0) (col j (z 1)) := by
  subst h
  funext a
  refine Fin.ext ?_
  match a with
  | 0 => show 0 + 1 * (z 0).val = (z 0).val; omega
  | 1 => show 128 * j.val + 1 * (z 1).val = 128 * j.val + (z 1).val; omega
/-- Where an element of 128 rows lies in the whole array. -/
theorem emb_rows {n : ℕ} (off : Fin 2 → ℕ) (inb : ∀ a, off a + (![128, n] : Fin 2 → ℕ) a ≤ (![12288, n] : Fin 2 → ℕ) a) (j : Fin 96)
    (h : off = ![128 * j.val, 0]) (z : (⟨2, ![128, n]⟩ : Shape).Idx) :
    (Rect.unit (s := ⟨2, ![12288, n]⟩) off ![128, n] inb).emb z = ix2 (col j (z 0)) (z 1) := by
  subst h
  funext a
  refine Fin.ext ?_
  match a with
  | 0 => show 128 * j.val + 1 * (z 0).val = 128 * j.val + (z 0).val; omega
  | 1 => show 0 + 1 * (z 1).val = (z 1).val; omega
/-- Where an element of 128 columns of an array of three axes lies in the whole array. -/
theorem emb_mats {n k : ℕ} (off : Fin 3 → ℕ) (inb : ∀ a, off a + (![n, k, 128] : Fin 3 → ℕ) a ≤ (![n, k, 12288] : Fin 3 → ℕ) a) (j : Fin 96)
    (h : off = ![0, 0, 128 * j.val]) (z : (⟨3, ![n, k, 128]⟩ : Shape).Idx) :
    (Rect.unit (s := ⟨3, ![n, k, 12288]⟩) off ![n, k, 128] inb).emb z = ix3 (z 0) (z 1) (col j (z 2)) := by
  subst h
  funext a
  refine Fin.ext ?_
  match a with
  | 0 => show 0 + 1 * (z 0).val = (z 0).val; omega
  | 1 => show 0 + 1 * (z 1).val = (z 1).val; omega
  | 2 => show 128 * j.val + 1 * (z 2).val = 128 * j.val + (z 2).val; omega
/-- Where an element of one plane lies in the whole array. -/
theorem emb_plane (off : Fin 3 → ℕ) (inb : ∀ a, off a + (![1, 4, 128] : Fin 3 → ℕ) a ≤ (![96, 4, 128] : Fin 3 → ℕ) a) (j : Fin 96)
    (h : off = ![j.val, 0, 0]) (z : (⟨3, ![1, 4, 128]⟩ : Shape).Idx) :
    (Rect.unit (s := ⟨3, ![96, 4, 128]⟩) off ![1, 4, 128] inb).emb z = ix3 j (z 1) (z 2) := by
  subst h
  have hz : (z 0).val < 1 := (z 0).isLt
  funext a
  refine Fin.ext ?_
  match a with
  | 0 => show j.val + 1 * (z 0).val = j.val; omega
  | 1 => show 0 + 1 * (z 1).val = (z 1).val; omega
  | 2 => show 0 + 1 * (z 2).val = (z 2).val; omega
/-- Where an element of one point's slice lies in the whole array. -/
theorem emb_row (off : Fin 3 → ℕ) (inb : ∀ a, off a + (![1, 4, 128] : Fin 3 → ℕ) a ≤ (![14, 4, 12288] : Fin 3 → ℕ) a) (i : Fin 14) (j : Fin 96)
    (h : off = ![i.val, 0, 128 * j.val]) (z : (⟨3, ![1, 4, 128]⟩ : Shape).Idx) :
    (Rect.unit (s := ⟨3, ![14, 4, 12288]⟩) off ![1, 4, 128] inb).emb z = ix3 i (z 1) (col j (z 2)) := by
  subst h
  have hz : (z 0).val < 1 := (z 0).isLt
  funext a
  refine Fin.ext ?_
  match a with
  | 0 => show i.val + 1 * (z 0).val = i.val; omega
  | 1 => show 0 + 1 * (z 1).val = (z 1).val; omega
  | 2 => show 128 * j.val + 1 * (z 2).val = 128 * j.val + (z 2).val; omega
/-- The rectangle of a whole matrix leaves an index as it is. -/
theorem emb_whole2 {n m : ℕ} (inb : ∀ a, (![0, 0] : Fin 2 → ℕ) a + (![n, m] : Fin 2 → ℕ) a ≤ (![n, m] : Fin 2 → ℕ) a) (z : (⟨2, ![n, m]⟩ : Shape).Idx) :
    (Rect.unit (s := ⟨2, ![n, m]⟩) ![0, 0] ![n, m] inb).emb z = z := by
  funext a
  refine Fin.ext ?_
  match a with
  | 0 => show 0 + 1 * (z 0).val = (z 0).val; omega
  | 1 => show 0 + 1 * (z 1).val = (z 1).val; omega
/-- The rectangle of a whole array of three axes leaves an index as it is. -/
theorem emb_whole3 {n m k : ℕ} (inb : ∀ a, (![0, 0, 0] : Fin 3 → ℕ) a + (![n, m, k] : Fin 3 → ℕ) a ≤ (![n, m, k] : Fin 3 → ℕ) a) (z : (⟨3, ![n, m, k]⟩ : Shape).Idx) :
    (Rect.unit (s := ⟨3, ![n, m, k]⟩) ![0, 0, 0] ![n, m, k] inb).emb z = z := by
  funext a
  refine Fin.ext ?_
  match a with
  | 0 => show 0 + 1 * (z 0).val = (z 0).val; omega
  | 1 => show 0 + 1 * (z 1).val = (z 1).val; omega
  | 2 => show 0 + 1 * (z 2).val = (z 2).val; omega

section Loads
variable {sp : Space}
/-- A load of the columns of a slice reads the slice. -/
theorem ld_cols {n : ℕ} {e : EltTy} (v : View sig .tc sp ⟨2, ![n, 12288]⟩ e) (f : BufTy.Contents (Elt F) v.ty) (off : Fin 2 → ℕ) (inb) (j : Fin 96) (h : off = ![0, 128 * j.val]) :
    v.readAt (Elt F) (Rect.unit (s := ⟨2, ![n, 12288]⟩) off ![n, 128] inb).toLoadRect f = slice2 (v.read (Elt F) f) j := by
  funext z; exact congrArg (v.read (Elt F) f) (emb_cols off inb j h z)
/-- A load of the columns of a slice of an array of three axes reads the slice. -/
theorem ld_mats {n k : ℕ} {e : EltTy} (v : View sig .tc sp ⟨3, ![n, k, 12288]⟩ e) (f : BufTy.Contents (Elt F) v.ty) (off : Fin 3 → ℕ) (inb) (j : Fin 96) (h : off = ![0, 0, 128 * j.val]) :
    v.readAt (Elt F) (Rect.unit (s := ⟨3, ![n, k, 12288]⟩) off ![n, k, 128] inb).toLoadRect f = slice3 (v.read (Elt F) f) j := by
  funext z; exact congrArg (v.read (Elt F) f) (emb_mats off inb j h z)
/-- A load of a whole matrix reads its contents. -/
theorem ld_whole2 {n m : ℕ} {e : EltTy} (v : View sig .tc sp ⟨2, ![n, m]⟩ e) (f : BufTy.Contents (Elt F) v.ty) (inb) :
    v.readAt (Elt F) (Rect.unit (s := ⟨2, ![n, m]⟩) ![0, 0] ![n, m] inb).toLoadRect f = v.read (Elt F) f := by
  funext z; exact congrArg (v.read (Elt F) f) (emb_whole2 inb z)
/-- A load of a whole array of three axes reads its contents. -/
theorem ld_whole3 {n m k : ℕ} {e : EltTy} (v : View sig .tc sp ⟨3, ![n, m, k]⟩ e) (f : BufTy.Contents (Elt F) v.ty) (inb) :
    v.readAt (Elt F) (Rect.unit (s := ⟨3, ![n, m, k]⟩) ![0, 0, 0] ![n, m, k] inb).toLoadRect f = v.read (Elt F) f := by
  funext z; exact congrArg (v.read (Elt F) f) (emb_whole3 inb z)
/-- After a store to a whole matrix the last stored value is read. -/
theorem st_whole2 {n m : ℕ} {e : EltTy} (v : View sig .tc sp ⟨2, ![n, m]⟩ e) (f : BufTy.Contents (Elt F) v.ty) (inb) (w : (⟨2, ![n, m]⟩ : Shape).Idx → Elt F e) (L) :
    v.read (Elt F) (v.writes (Elt F) f (⟨Rect.unit (s := ⟨2, ![n, m]⟩) ![0, 0] ![n, m] inb, w⟩ :: L)) = w := by
  funext z
  conv_lhs => rw [← emb_whole2 inb z]
  exact View.read_writes_cons_emb v f (Rect.unit (s := ⟨2, ![n, m]⟩) ![0, 0] ![n, m] inb) w L z
end Loads

section Trips
variable (𝒱 : Variants) (c : Dev nD) (bd : Option 𝒱.V) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S1x1x128 .f32) (harg4 : arg4.IsWhole) (arg5 : Memref sig .tc .vmem S1x12288 .f32) (harg5 : arg5.IsWhole) (arg6 : Memref sig .tc .vmem S128x12288 .fp8e5m2) (harg6 : arg6.IsWhole) (arg7 : Memref sig .tc .vmem S128x384 .i8) (harg7 : arg7.IsWhole) (arg8 : Memref sig .tc .vmem S12288x128 .fp8e5m2) (harg8 : arg8.IsWhole) (arg9 : Memref sig .tc .vmem S12288x56 .i8) (harg9 : arg9.IsWhole) (arg10 : Memref sig .tc .vmem S96x4x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x12288 .f32) (harg13 : arg13.IsWhole) (arg14 : Memref sig .tc .vmem S14x4x12288 .i32) (harg14 : arg14.IsWhole)

set_option maxHeartbeats 1000000 in
/-- One trip of the first loop: what it stores. -/
theorem trip1 (X1 X2 X3 X11 k f12 f13) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 k f12 f13
      = ([⟨Rect.unit ![0, 0] ![128, 128] inb_S128x128_S128x128_0_0, k0_pay29 (slice2 (arg1.view.read (Elt F) X1) (k.cast trips1)) (slice2 (arg2.view.read (Elt F) X2) (k.cast trips1)) (slice2 (arg3.view.read (Elt F) X3) (k.cast trips1)) (arg11.view.read (Elt F) X11) (arg12.view.read (Elt F) f12)⟩],
        [⟨Rect.unit (k0_off3 k) ![8, 128] (k0_off3_inb k), k0_pay30 (slice2 (arg1.view.read (Elt F) X1) (k.cast trips1)) (slice2 (arg2.view.read (Elt F) X2) (k.cast trips1)) (arg11.view.read (Elt F) X11) (slice2 (arg13.view.read (Elt F) f13) (k.cast trips1))⟩]) := by
  rw [← ld_cols arg1.view X1 (k0_off1 k) (k0_off1_inb k) (k.cast trips1) (off1_eq k),
    ← ld_cols arg2.view X2 (k0_off1 k) (k0_off1_inb k) (k.cast trips1) (off1_eq k),
    ← ld_cols arg3.view X3 (k0_off2 k) (k0_off2_inb k) (k.cast trips1) (off2_eq k),
    ← ld_cols arg13.view f13 (k0_off3 k) (k0_off3_inb k) (k.cast trips1) (off3_eq k),
    ← ld_whole2 arg11.view X11 inb_S128x128_S128x128_0_0, ← ld_whole2 arg12.view f12 inb_S128x128_S128x128_0_0]
  unfold tripL_k0_t1 trip_k0_t1
  rfl

set_option maxHeartbeats 1000000 in
/-- One trip of the second loop: what it stores. -/
theorem trip2 (a0) (X1 X2 X3 X11 X12 k) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k
      = ([⟨Rect.unit (k0_off4 k) ![128, 128] (k0_off4_inb k), crS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12)⟩],
        [⟨Rect.unit (k0_off7 k) ![128, 128] (k0_off7_inb k), ccS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12)⟩],
        [⟨Rect.unit (k0_off8 k) ![1, 4, 128] (k0_off8_inb k), erowS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12)⟩],
        [⟨Rect.unit (k0_off6 i k) ![1, 4, 128] (k0_off6_inb i k), ecolS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12)⟩]) := by
  rw [← ld_cols arg1.view X1 (k0_off4 k) (k0_off4_inb k) (k.cast trips2) (off4_eq k),
    ← ld_cols arg2.view X2 (k0_off4 k) (k0_off4_inb k) (k.cast trips2) (off4_eq k),
    ← ld_cols arg3.view X3 (k0_off5 k) (k0_off5_inb k) (k.cast trips2) (off5_eq k),
    ← ld_whole2 arg11.view X11 inb_S128x128_S128x128_0_0, ← ld_whole2 arg12.view X12 inb_S128x128_S128x128_0_0]
  unfold tripL_k0_t2 trip_k0_t2
  rfl

set_option maxHeartbeats 1000000 in
/-- One trip of the third loop: what it stores. -/
theorem trip3 (h2) (X14 k) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h2 X14 k
      = [⟨Rect.unit (k0_off10 k) ![128, 56] (k0_off10_inb i k h2), k0_pay3 (slice3 (arg14.view.read (Elt F) X14) (k.cast trips3))⟩] := by
  rw [← ld_mats arg14.view X14 (k0_off9 k) (k0_off9_inb i k h2) (k.cast trips3) (off9_eq k)]
  unfold tripL_k0_t3 trip_k0_t3
  rfl
end Trips

end Cert.KernelIdeal.Hand

end
-- ==== Proof.LoopValue.lean ====
/- What every buffer the idealized kernel's counted loops write holds after the last trip, as the tile functions of the
   blocks read. -/
module

public import proofs.«01_k».proof.Proof.LoopTrips

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- An index of an array of rows, its column written by slice and place. -/
theorem ix2_right {n : ℕ} (y : (⟨2, ![n, 12288]⟩ : Shape).Idx) : ix2 (y 0) (col (jOf (y 1)) (lOf (y 1))) = y :=
  (congrArg (ix2 (y 0)) (col_jl (y 1))).trans (ix2_eta y)
/-- An index whose first coordinate is split into slice and lane is the index. -/
theorem ix2_left {n : ℕ} (y : (⟨2, ![12288, n]⟩ : Shape).Idx) : ix2 (col (jOf (y 0)) (lOf (y 0))) (y 1) = y :=
  (congrArg (fun r => ix2 r (y 1)) (col_jl (y 0))).trans (ix2_eta y)
/-- An index whose last coordinate is split into slice and lane is the index. -/
theorem ix3_right {n k : ℕ} (y : (⟨3, ![n, k, 12288]⟩ : Shape).Idx) : ix3 (y 0) (y 1) (col (jOf (y 2)) (lOf (y 2))) = y :=
  (congrArg (ix3 (y 0) (y 1)) (col_jl (y 2))).trans (ix3_eta y)
variable (𝒱 : Variants) (c : Dev nD) (bd : Option 𝒱.V) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S1x1x128 .f32) (harg4 : arg4.IsWhole) (arg5 : Memref sig .tc .vmem S1x12288 .f32) (harg5 : arg5.IsWhole) (arg6 : Memref sig .tc .vmem S128x12288 .fp8e5m2) (harg6 : arg6.IsWhole) (arg7 : Memref sig .tc .vmem S128x384 .i8) (harg7 : arg7.IsWhole) (arg8 : Memref sig .tc .vmem S12288x128 .fp8e5m2) (harg8 : arg8.IsWhole) (arg9 : Memref sig .tc .vmem S12288x56 .i8) (harg9 : arg9.IsWhole) (arg10 : Memref sig .tc .vmem S96x4x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x12288 .f32) (harg13 : arg13.IsWhole) (arg14 : Memref sig .tc .vmem S14x4x12288 .i32) (harg14 : arg14.IsWhole)

section First
variable (X1 X2 X3 X11) (G12 : BufTy.Contents (Elt F) arg12.view.ty) (G13 : BufTy.Contents (Elt F) arg13.view.ty)

/-- The mean's terms after `k` trips of the first loop. -/
theorem loop1_acc (h0 : arg12.view.read (Elt F) G12 = k0_pay26) (k : ℕ) (hk : k ≤ 96) :
    arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 k).1)
      = acc (arg1.view.read (Elt F) X1) (arg2.view.read (Elt F) X2) (arg3.view.read (Elt F) X3) (arg11.view.read (Elt F) X11) k := by
  induction k with
  | zero => exact h0
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 ⟨n, by rw [trips1]; omega⟩
    rw [trip1] at e
    rw [show n + 1 = (⟨n, by rw [trips1]; omega⟩ : Fin k0_t1_loop.trips).val + 1 from rfl, e]
    simp only [List.singleton_append]
    rw [st_whole2, ih (by omega)]
    conv_rhs => unfold acc
    rw [dif_pos (by show n < 96; omega)]
    rfl

/-- The terms of dgamma after the first loop. -/
theorem loop1_dga :
    arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 k0_t1_loop.trips).2)
      = fun y => k0_pay30 (slice2 (arg1.view.read (Elt F) X1) (jOf (y 1))) (slice2 (arg2.view.read (Elt F) X2) (jOf (y 1))) (arg11.view.read (Elt F) X11) (slice2 (arg13.view.read (Elt F) G13) (jOf (y 1))) (ix2 (y 0) (lOf (y 1))) := by
  have key := read_tiles arg13.view G13 (T := k0_t1_loop.trips) ![8, 128] (fun k => k0_off3 k) (fun k => k0_off3_inb k)
    (fun k => k0_pay30 (slice2 (arg1.view.read (Elt F) X1) (k.cast trips1)) (slice2 (arg2.view.read (Elt F) X2) (k.cast trips1)) (arg11.view.read (Elt F) X11)
      (slice2 (arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 k.val).2)) (k.cast trips1)))
    (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 k).2) rfl
    (fun k => by
      have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 k
      rw [trip1] at e
      rw [e]; rfl)
    (1 : Fin 2) (fun j k hjk => by
      have : j.val ≠ k.val := fun h => hjk (Fin.ext h)
      rw [off3_eq, off3_eq]
      show 128 * j.val + 128 ≤ 128 * k.val ∨ 128 * k.val + 128 ≤ 128 * j.val
      omega)
  funext y
  have hy := key k0_t1_loop.trips le_rfl ((jOf (y 1)).cast trips1.symm) (ix2 (y 0) (lOf (y 1)))
  rw [if_pos (Fin.isLt _)] at hy
  have e := emb_cols (n := 8) (k0_off3 ((jOf (y 1)).cast trips1.symm)) (k0_off3_inb _) (jOf (y 1)) (off3_eq _) (ix2 (y 0) (lOf (y 1)))
  have e2 := ix2_right y
  refine (congrArg _ (e.trans e2).symm).trans (hy.trans ?_)
  have hs : slice2 (arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 ((jOf (y 1)).cast trips1.symm).val).2)) (jOf (y 1)) = slice2 (arg13.view.read (Elt F) G13) (jOf (y 1)) := by
    funext z
    have hz := key ((jOf (y 1)).cast trips1.symm).val (Fin.isLt _).le ((jOf (y 1)).cast trips1.symm) z
    rw [if_neg (Nat.lt_irrefl _)] at hz
    have ez := emb_cols (n := 8) (k0_off3 ((jOf (y 1)).cast trips1.symm)) (k0_off3_inb _) (jOf (y 1)) (off3_eq _) z
    exact (congrArg _ ez.symm).trans (hz.trans (congrArg _ ez))
  show k0_pay30 _ _ _ (slice2 _ (jOf (y 1))) _ = _
  rw [hs]
  rfl
end First

section Second
variable (a0) (X1 X2 X3 X11 X12)

/-- The row codes after the second loop. -/
theorem loop2_cr (G : BufTy.Contents (Elt F) arg6.view.ty) :
    arg6.view.read (Elt F) (arg6.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k0_t2_loop.trips).1)
      = fun y => crS (slice2 (arg1.view.read (Elt F) X1) (jOf (y 1))) (slice2 (arg2.view.read (Elt F) X2) (jOf (y 1))) (slice2 (arg3.view.read (Elt F) X3) (jOf (y 1))) (arg11.view.read (Elt F) X11) (arg12.view.read (Elt F) X12) (ix2 (y 0) (lOf (y 1))) := by
  have key := read_tiles arg6.view G (T := k0_t2_loop.trips) ![128, 128] (fun k => k0_off4 k) (fun k => k0_off4_inb k)
    (fun k => crS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12))
    (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k).1) rfl
    (fun k => by
      have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k
      rw [trip2] at e
      rw [e]; rfl)
    (1 : Fin 2) (fun j k hjk => by
      have : j.val ≠ k.val := fun h => hjk (Fin.ext h)
      rw [off4_eq, off4_eq]
      show 128 * j.val + 128 ≤ 128 * k.val ∨ 128 * k.val + 128 ≤ 128 * j.val
      omega)
  funext y
  have hy := key k0_t2_loop.trips le_rfl ((jOf (y 1)).cast trips2.symm) (ix2 (y 0) (lOf (y 1)))
  rw [if_pos (Fin.isLt _)] at hy
  have e := emb_cols (n := 128) (k0_off4 ((jOf (y 1)).cast trips2.symm)) (k0_off4_inb _) (jOf (y 1)) (off4_eq _) (ix2 (y 0) (lOf (y 1)))
  have e2 := ix2_right y
  exact (congrArg _ (e.trans e2).symm).trans hy

/-- The column codes after the second loop. -/
theorem loop2_cc (G : BufTy.Contents (Elt F) arg8.view.ty) :
    arg8.view.read (Elt F) (arg8.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k0_t2_loop.trips).2.1)
      = fun y => ccS (slice2 (arg1.view.read (Elt F) X1) (jOf (y 0))) (slice2 (arg2.view.read (Elt F) X2) (jOf (y 0))) (slice2 (arg3.view.read (Elt F) X3) (jOf (y 0))) (arg11.view.read (Elt F) X11) (arg12.view.read (Elt F) X12) (ix2 (lOf (y 0)) (y 1)) := by
  have key := read_tiles arg8.view G (T := k0_t2_loop.trips) ![128, 128] (fun k => k0_off7 k) (fun k => k0_off7_inb k)
    (fun k => ccS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12))
    (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k).2.1) rfl
    (fun k => by
      have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k
      rw [trip2] at e
      rw [e]; rfl)
    (0 : Fin 2) (fun j k hjk => by
      have : j.val ≠ k.val := fun h => hjk (Fin.ext h)
      rw [off7_eq, off7_eq]
      show 128 * j.val + 128 ≤ 128 * k.val ∨ 128 * k.val + 128 ≤ 128 * j.val
      omega)
  funext y
  have hy := key k0_t2_loop.trips le_rfl ((jOf (y 0)).cast trips2.symm) (ix2 (lOf (y 0)) (y 1))
  rw [if_pos (Fin.isLt _)] at hy
  have e := emb_rows (n := 128) (k0_off7 ((jOf (y 0)).cast trips2.symm)) (k0_off7_inb _) (jOf (y 0)) (off7_eq _) (ix2 (lOf (y 0)) (y 1))
  have e2 := ix2_left y
  exact (congrArg _ (e.trans e2).symm).trans hy

/-- The row scale codes after the second loop. -/
theorem loop2_er (G : BufTy.Contents (Elt F) arg10.view.ty) :
    arg10.view.read (Elt F) (arg10.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k0_t2_loop.trips).2.2.1)
      = fun y => erowS (slice2 (arg1.view.read (Elt F) X1) (y 0)) (slice2 (arg2.view.read (Elt F) X2) (y 0)) (slice2 (arg3.view.read (Elt F) X3) (y 0)) (arg11.view.read (Elt F) X11) (arg12.view.read (Elt F) X12) (ix3 (0 : Fin 1) (y 1) (y 2)) := by
  have key := read_tiles arg10.view G (T := k0_t2_loop.trips) ![1, 4, 128] (fun k => k0_off8 k) (fun k => k0_off8_inb k)
    (fun k => erowS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12))
    (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k).2.2.1) rfl
    (fun k => by
      have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k
      rw [trip2] at e
      rw [e]; rfl)
    (0 : Fin 3) (fun j k hjk => by
      have : j.val ≠ k.val := fun h => hjk (Fin.ext h)
      rw [off8_eq, off8_eq]
      show j.val + 1 ≤ k.val ∨ k.val + 1 ≤ j.val
      omega)
  funext y
  have hy := key k0_t2_loop.trips le_rfl (Fin.cast trips2.symm (y 0)) (ix3 (0 : Fin 1) (y 1) (y 2))
  rw [if_pos (Fin.isLt _)] at hy
  have e := emb_plane (k0_off8 (Fin.cast trips2.symm (y 0))) (k0_off8_inb _) (y 0) (off8_eq _) (ix3 (0 : Fin 1) (y 1) (y 2))
  have e2 := ix3_eta y
  exact (congrArg _ (e.trans e2).symm).trans hy

/-- The column scale codes after the second loop: the point's row written, the others untouched. -/
theorem loop2_ec (G : BufTy.Contents (Elt F) arg14.view.ty) :
    arg14.view.read (Elt F) (arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k0_t2_loop.trips).2.2.2)
      = fun y => if (y 0).val = (i 0).val then
          ecolS (slice2 (arg1.view.read (Elt F) X1) (jOf (y 2))) (slice2 (arg2.view.read (Elt F) X2) (jOf (y 2))) (slice2 (arg3.view.read (Elt F) X3) (jOf (y 2))) (arg11.view.read (Elt F) X11) (arg12.view.read (Elt F) X12) (ix3 (0 : Fin 1) (y 1) (lOf (y 2)))
        else arg14.view.read (Elt F) G y := by
  have hs : ∀ k : Fin k0_t2_loop.trips, (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 (k.val + 1)).2.2.2
      = ⟨Rect.unit (k0_off6 i k) ![1, 4, 128] (k0_off6_inb i k), ecolS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12)⟩
        :: (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k.val).2.2.2 := fun k => by
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k
    rw [trip2] at e
    rw [e]; rfl
  funext y
  by_cases hyi : (y 0).val = (i 0).val
  · rw [if_pos hyi]
    have key := read_tiles arg14.view G (T := k0_t2_loop.trips) ![1, 4, 128] (fun k => k0_off6 i k) (fun k => k0_off6_inb i k)
      (fun k => ecolS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12))
      (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k).2.2.2) rfl hs
      (2 : Fin 3) (fun j k hjk => by
        have : j.val ≠ k.val := fun h => hjk (Fin.ext h)
        rw [off6_eq, off6_eq]
        show 128 * j.val + 128 ≤ 128 * k.val ∨ 128 * k.val + 128 ≤ 128 * j.val
        omega)
    have hy := key k0_t2_loop.trips le_rfl ((jOf (y 2)).cast trips2.symm) (ix3 (0 : Fin 1) (y 1) (lOf (y 2)))
    rw [if_pos (Fin.isLt _)] at hy
    have e := emb_row (k0_off6 i ((jOf (y 2)).cast trips2.symm)) (k0_off6_inb _ _) (y 0) (jOf (y 2)) (by rw [hyi]; exact off6_eq i _) (ix3 (0 : Fin 1) (y 1) (lOf (y 2)))
    have e2 := ix3_right y
    exact (congrArg _ (e.trans e2).symm).trans hy
  · rw [if_neg hyi]
    exact read_tiles_miss arg14.view G (T := k0_t2_loop.trips) ![1, 4, 128] (fun k => k0_off6 i k) (fun k => k0_off6_inb i k)
      (fun k => ecolS (slice2 (arg1.view.read (Elt F) X1) (k.cast trips2)) (slice2 (arg2.view.read (Elt F) X2) (k.cast trips2)) (slice2 (arg3.view.read (Elt F) X3) (k.cast trips2)) (arg11.view.read (Elt F) X11) (arg12.view.read (Elt F) X12))
      (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 k).2.2.2) rfl hs
      y (0 : Fin 3) (fun k => by
        rw [off6_eq]
        show (y 0).val < (i 0).val ∨ (i 0).val + 1 ≤ (y 0).val
        omega) _ le_rfl
end Second

/-- The column scale codes of the whole array after the third loop. -/
theorem loop3_sc (h2) (X14) (G : BufTy.Contents (Elt F) arg9.view.ty) :
    arg9.view.read (Elt F) (arg9.view.writes (Elt F) G (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h2 X14 k0_t3_loop.trips))
      = scB (arg14.view.read (Elt F) X14) := by
  have key := read_tiles arg9.view G (T := k0_t3_loop.trips) ![128, 56] (fun k => k0_off10 k) (fun k => k0_off10_inb i k h2)
    (fun k => k0_pay3 (slice3 (arg14.view.read (Elt F) X14) (k.cast trips3)))
    (fun k => pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h2 X14 k) rfl
    (fun k => by
      have e := pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 h2 X14 k
      rw [trip3] at e
      rw [e]; rfl)
    (0 : Fin 2) (fun j k hjk => by
      have : j.val ≠ k.val := fun h => hjk (Fin.ext h)
      rw [off10_eq, off10_eq]
      show 128 * j.val + 128 ≤ 128 * k.val ∨ 128 * k.val + 128 ≤ 128 * j.val
      omega)
  funext y
  have hy := key k0_t3_loop.trips le_rfl ((jOf (y 0)).cast trips3.symm) (ix2 (lOf (y 0)) (y 1))
  rw [if_pos (Fin.isLt _)] at hy
  have e := emb_rows (n := 56) (k0_off10 ((jOf (y 0)).cast trips3.symm)) (k0_off10_inb i _ h2) (jOf (y 0)) (off10_eq _) (ix2 (lOf (y 0)) (y 1))
  have e2 := ix2_left y
  exact (congrArg _ (e.trans e2).symm).trans hy

end Cert.KernelIdeal.Hand

end
-- ==== Proof.BodyValue.lean ====
/- The idealized kernel's body at one grid point: from the blocks it reads and what the carried buffers hold, what it
   leaves in every output and carried buffer. -/
module

public import proofs.«01_k».proof.Proof.LoopValue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Reads
variable (c : Dev nD) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S1x1x128 .f32) (harg4 : arg4.IsWhole) (arg5 : Memref sig .tc .vmem S1x12288 .f32) (harg5 : arg5.IsWhole) (arg6 : Memref sig .tc .vmem S128x12288 .fp8e5m2) (harg6 : arg6.IsWhole) (arg7 : Memref sig .tc .vmem S128x384 .i8) (harg7 : arg7.IsWhole) (arg8 : Memref sig .tc .vmem S12288x128 .fp8e5m2) (harg8 : arg8.IsWhole) (arg9 : Memref sig .tc .vmem S12288x56 .i8) (harg9 : arg9.IsWhole) (arg10 : Memref sig .tc .vmem S96x4x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x12288 .f32) (harg13 : arg13.IsWhole) (arg14 : Memref sig .tc .vmem S14x4x12288 .i32) (harg14 : arg14.IsWhole)
    {x0 : Vec F S128x12288 .bf16} {x1 : Vec F S128x12288 .bf16} {x2 : Vec F S1x12288 .f32} {x3 : Vec F S1x1x128 .f32}

/-- What the buffer of the broadcast reciprocal root holds. -/
theorem rb_read {X4} (h4 : arg4.view.read (Elt F) X4 = x3) (G L inb inb') :
    arg11.view.read (Elt F) (arg11.view.writes (Elt F) G (⟨Rect.unit (s := S128x128) ![0, 0] ![128, 128] inb,
      k0_pay25 (arg4.view.readAt (Elt F) (Rect.unit (s := S1x1x128) ![0, 0, 0] ![1, 1, 128] inb').toLoadRect X4)⟩ :: L)) = k0_pay25 x3 := by
  rw [st_whole2, ld_whole3, h4]

variable {X1 X2 X3 X11}

/-- What the buffer of the mean holds after the first loop. -/
theorem mean_read (G13) (G L L' inb inb')
    (h1 : arg1.view.read (Elt F) X1 = x0) (h2 : arg2.view.read (Elt F) X2 = x1) (h3 : arg3.view.read (Elt F) X3 = x2)
    (h11 : arg11.view.read (Elt F) X11 = k0_pay25 x3) (h12 : arg12.view.read (Elt F) (arg12.view.writes (Elt F) G L) = k0_pay26) :
    arg12.view.read (Elt F) (arg12.view.writes (Elt F) G (⟨Rect.unit (s := S128x128) ![0, 0] ![128, 128] inb,
      k0_pay31 (arg12.view.readAt (Elt F) (Rect.unit (s := S128x128) ![0, 0] ![128, 128] inb').toLoadRect (arg12.view.writes (Elt F) G
        ((pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 (arg12.view.writes (Elt F) G L) G13 (Scf.trips k0_t1_loop.lb k0_t1_loop.ub k0_t1_loop.st)).1 ++ L)))⟩ :: L'))
      = meanB x0 x1 x2 x3 := by
  subst h1 h2 h3
  rw [st_whole2, ld_whole2, View.writes_append,
    show Scf.trips k0_t1_loop.lb k0_t1_loop.ub k0_t1_loop.st = 96 from trips1, loop1_acc (h0 := h12) (hk := le_refl _), h11]
  rfl

/-- What the buffer of dgamma's terms holds after the first loop. -/
theorem dga_read (G12 G13) {D}
    (h1 : arg1.view.read (Elt F) X1 = x0) (h2 : arg2.view.read (Elt F) X2 = x1)
    (h11 : arg11.view.read (Elt F) X11 = k0_pay25 x3) (h13 : arg13.view.read (Elt F) G13 = D) :
    arg13.view.read (Elt F) (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X11 G12 G13 (Scf.trips k0_t1_loop.lb k0_t1_loop.ub k0_t1_loop.st)).2)
      = dgaNext x0 x1 x3 D := by
  subst h1 h2 h13
  rw [show Scf.trips k0_t1_loop.lb k0_t1_loop.ub k0_t1_loop.st = k0_t1_loop.trips from rfl, loop1_dga, h11]
  rfl

variable {X12} (a0)
/-! What the outputs and the carried buffer of scale codes hold after the second loop. -/

/-- After the second loop the buffer of row codes reads as the row codes of the block. -/
theorem cr_read (G)
    (h1 : arg1.view.read (Elt F) X1 = x0) (h2 : arg2.view.read (Elt F) X2 = x1) (h3 : arg3.view.read (Elt F) X3 = x2)
    (h11 : arg11.view.read (Elt F) X11 = k0_pay25 x3) (h12 : arg12.view.read (Elt F) X12 = meanB x0 x1 x2 x3) :
    arg6.view.read (Elt F) (arg6.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 (Scf.trips k0_t2_loop.lb k0_t2_loop.ub k0_t2_loop.st)).1)
      = crB x0 x1 x2 x3 := by
  subst h1 h2 h3
  rw [show Scf.trips k0_t2_loop.lb k0_t2_loop.ub k0_t2_loop.st = k0_t2_loop.trips from rfl, loop2_cr, h11, h12]
  rfl

/-- After the second loop the buffer of column codes reads as the column codes of the block. -/
theorem cc_read (G)
    (h1 : arg1.view.read (Elt F) X1 = x0) (h2 : arg2.view.read (Elt F) X2 = x1) (h3 : arg3.view.read (Elt F) X3 = x2)
    (h11 : arg11.view.read (Elt F) X11 = k0_pay25 x3) (h12 : arg12.view.read (Elt F) X12 = meanB x0 x1 x2 x3) :
    arg8.view.read (Elt F) (arg8.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 (Scf.trips k0_t2_loop.lb k0_t2_loop.ub k0_t2_loop.st)).2.1)
      = ccB x0 x1 x2 x3 := by
  subst h1 h2 h3
  rw [show Scf.trips k0_t2_loop.lb k0_t2_loop.ub k0_t2_loop.st = k0_t2_loop.trips from rfl, loop2_cc, h11, h12]
  rfl

/-- After the second loop the scratch buffer of row scale codes reads as those of the block. -/
theorem er_read (G)
    (h1 : arg1.view.read (Elt F) X1 = x0) (h2 : arg2.view.read (Elt F) X2 = x1) (h3 : arg3.view.read (Elt F) X3 = x2)
    (h11 : arg11.view.read (Elt F) X11 = k0_pay25 x3) (h12 : arg12.view.read (Elt F) X12 = meanB x0 x1 x2 x3) :
    arg10.view.read (Elt F) (arg10.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 (Scf.trips k0_t2_loop.lb k0_t2_loop.ub k0_t2_loop.st)).2.2.1)
      = erB x0 x1 x2 x3 := by
  subst h1 h2 h3
  rw [show Scf.trips k0_t2_loop.lb k0_t2_loop.ub k0_t2_loop.st = k0_t2_loop.trips from rfl, loop2_er, h11, h12]
  rfl

/-- After the second loop the carried buffer of column scale codes has the block's in its own place and is as before elsewhere. -/
theorem ec_read (G) {E0} (hE : arg14.view.read (Elt F) G = E0)
    (h1 : arg1.view.read (Elt F) X1 = x0) (h2 : arg2.view.read (Elt F) X2 = x1) (h3 : arg3.view.read (Elt F) X3 = x2)
    (h11 : arg11.view.read (Elt F) X11 = k0_pay25 x3) (h12 : arg12.view.read (Elt F) X12 = meanB x0 x1 x2 x3) :
    arg14.view.read (Elt F) (arg14.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 a0 X1 X2 X3 X11 X12 (Scf.trips k0_t2_loop.lb k0_t2_loop.ub k0_t2_loop.st)).2.2.2)
      = ecNext x0 x1 x2 x3 (i 0) E0 := by
  subst h1 h2 h3
  rw [show Scf.trips k0_t2_loop.lb k0_t2_loop.ub k0_t2_loop.st = k0_t2_loop.trips from rfl, loop2_ec, h11, h12, hE]
  rfl
end Reads

set_option maxHeartbeats 8000000 in
/-- The body at any grid point. The mean, the codes and the scale codes are those of the blocks; the terms of dgamma are added
    to what was carried (nothing, at the first point); the point's row of column scale codes is written; at the last point
    dgamma and the whole array of column scale codes are written, and at the other points their buffers are untouched. -/
theorem bodyVal (c : Dev nD) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S1x1x128 .f32) (harg4 : arg4.IsWhole) (arg5 : Memref sig .tc .vmem S1x12288 .f32) (harg5 : arg5.IsWhole) (arg6 : Memref sig .tc .vmem S128x12288 .fp8e5m2) (harg6 : arg6.IsWhole) (arg7 : Memref sig .tc .vmem S128x384 .i8) (harg7 : arg7.IsWhole) (arg8 : Memref sig .tc .vmem S12288x128 .fp8e5m2) (harg8 : arg8.IsWhole) (arg9 : Memref sig .tc .vmem S12288x56 .i8) (harg9 : arg9.IsWhole) (arg10 : Memref sig .tc .vmem S96x4x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x12288 .f32) (harg13 : arg13.IsWhole) (arg14 : Memref sig .tc .vmem S14x4x12288 .i32) (harg14 : arg14.IsWhole)
    (x0 : Vec F S128x12288 .bf16) (x1 : Vec F S128x12288 .bf16) (x2 : Vec F S1x12288 .f32) (x3 : Vec F S1x1x128 .f32)
    (d4 : Vec F S1x12288 .f32) (d8 : Vec F S12288x56 .i8) (D : Vec F S8x12288 .f32) (E0 : Vec F S14x4x12288 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare D ∗ owns (c : Thread nD τ) arg14 fullShare E0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (if cond0_1 i then k0_pay2 (dgaNext x0 x1 x3 (if cond0_0 i then k0_pay24 else D)) else d4) ∗ owns (c : Thread nD τ) arg6 fullShare (crB x0 x1 x2 x3) ∗ owns (c : Thread nD τ) arg7 fullShare (srB x0 x1 x2 x3) ∗ owns (c : Thread nD τ) arg8 fullShare (ccB x0 x1 x2 x3) ∗ owns (c : Thread nD τ) arg9 fullShare (if cond0_1 i then scB (ecNext x0 x1 x2 x3 (i 0) E0) else d8) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (dgaNext x0 x1 x3 (if cond0_0 i then k0_pay24 else D)) ∗ owns (c : Thread nD τ) arg14 fullShare (ecNext x0 x1 x2 x3 (i 0) E0)) -∗ K ⟨⟩))
      ⊢ wp frame (wpE (defs₀ (F := F)) Variants.none c none) E (cc0_rmsnorm_bwd_mx i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rmsnorm_bwd_mx_eq_skeleton]; unfold cc0_rmsnorm_bwd_mx_skel
  simp only [k0_part6_eq_skeleton]
  by_cases hc0 : cond0_0 i <;> by_cases hc1 : cond0_1 i
  · unfold owns
    rw [if_pos hc0]
    rw [if_pos hc1, if_pos hc1]
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact (st_whole2 _ _ _ _ _).trans (congrArg k0_pay2 ((ld_whole2 _ _ _).trans ((congrArg _ (View.writes_append _ _ _ _)).trans (dga_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 (rb_read arg4 arg11 hf3 _ _ _ _) (st_whole2 _ _ _ _ _)))))
    isplitl [H5]
    · iexists _; isplitr; swap; · iexact H5
      ipureintro
      exact (cr_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H6]
    · iexists _; isplitr; swap; · iexact H6
      ipureintro
      exact (st_whole2 _ _ _ _ _).trans (congrArg k0_pay1 ((ld_whole3 _ _ _).trans (er_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))))
    isplitl [H7]
    · iexists _; isplitr; swap; · iexact H7
      ipureintro
      exact (cc_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H8]
    · iexists _; isplitr; swap; · iexact H8
      ipureintro
      exact (loop3_sc Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _).trans (congrArg scB (ec_read c i arg1 harg1 arg2 harg2 arg3 harg3 arg4 harg4 arg5 harg5 arg6 harg6 arg7 harg7 arg8 harg8 arg9 harg9 arg10 harg10 arg11 harg11 arg12 harg12 arg13 harg13 arg14 harg14 _ _ hf13 hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _))))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _; isplitr; swap; · iexact H12
      ipureintro
      exact ((congrArg _ (View.writes_append _ _ _ _)).trans (dga_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 (rb_read arg4 arg11 hf3 _ _ _ _) (st_whole2 _ _ _ _ _)))
    iexists _; isplitr; swap; · iexact H13
    ipureintro
    exact (ec_read c i arg1 harg1 arg2 harg2 arg3 harg3 arg4 harg4 arg5 harg5 arg6 harg6 arg7 harg7 arg8 harg8 arg9 harg9 arg10 harg10 arg11 harg11 arg12 harg12 arg13 harg13 arg14 harg14 _ _ hf13 hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
  · unfold owns
    rw [if_pos hc0]
    rw [if_neg hc1, if_neg hc1]
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact hf4
    isplitl [H5]
    · iexists _; isplitr; swap; · iexact H5
      ipureintro
      exact (cr_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H6]
    · iexists _; isplitr; swap; · iexact H6
      ipureintro
      exact (st_whole2 _ _ _ _ _).trans (congrArg k0_pay1 ((ld_whole3 _ _ _).trans (er_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))))
    isplitl [H7]
    · iexists _; isplitr; swap; · iexact H7
      ipureintro
      exact (cc_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H8]
    · iexists _; isplitr; swap; · iexact H8
      ipureintro
      exact hf8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _; isplitr; swap; · iexact H12
      ipureintro
      exact ((congrArg _ (View.writes_append _ _ _ _)).trans (dga_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 (rb_read arg4 arg11 hf3 _ _ _ _) (st_whole2 _ _ _ _ _)))
    iexists _; isplitr; swap; · iexact H13
    ipureintro
    exact (ec_read c i arg1 harg1 arg2 harg2 arg3 harg3 arg4 harg4 arg5 harg5 arg6 harg6 arg7 harg7 arg8 harg8 arg9 harg9 arg10 harg10 arg11 harg11 arg12 harg12 arg13 harg13 arg14 harg14 _ _ hf13 hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
  · unfold owns
    rw [if_neg hc0]
    rw [if_pos hc1, if_pos hc1]
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact (st_whole2 _ _ _ _ _).trans (congrArg k0_pay2 ((ld_whole2 _ _ _).trans (dga_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 (rb_read arg4 arg11 hf3 _ _ _ _) hf12)))
    isplitl [H5]
    · iexists _; isplitr; swap; · iexact H5
      ipureintro
      exact (cr_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H6]
    · iexists _; isplitr; swap; · iexact H6
      ipureintro
      exact (st_whole2 _ _ _ _ _).trans (congrArg k0_pay1 ((ld_whole3 _ _ _).trans (er_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))))
    isplitl [H7]
    · iexists _; isplitr; swap; · iexact H7
      ipureintro
      exact (cc_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H8]
    · iexists _; isplitr; swap; · iexact H8
      ipureintro
      exact (loop3_sc Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _).trans (congrArg scB (ec_read c i arg1 harg1 arg2 harg2 arg3 harg3 arg4 harg4 arg5 harg5 arg6 harg6 arg7 harg7 arg8 harg8 arg9 harg9 arg10 harg10 arg11 harg11 arg12 harg12 arg13 harg13 arg14 harg14 _ _ hf13 hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _))))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _; isplitr; swap; · iexact H12
      ipureintro
      exact (dga_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 (rb_read arg4 arg11 hf3 _ _ _ _) hf12)
    iexists _; isplitr; swap; · iexact H13
    ipureintro
    exact (ec_read c i arg1 harg1 arg2 harg2 arg3 harg3 arg4 harg4 arg5 harg5 arg6 harg6 arg7 harg7 arg8 harg8 arg9 harg9 arg10 harg10 arg11 harg11 arg12 harg12 arg13 harg13 arg14 harg14 _ _ hf13 hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
  · unfold owns
    rw [if_neg hc0]
    rw [if_neg hc1, if_neg hc1]
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact hf4
    isplitl [H5]
    · iexists _; isplitr; swap; · iexact H5
      ipureintro
      exact (cr_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H6]
    · iexists _; isplitr; swap; · iexact H6
      ipureintro
      exact (st_whole2 _ _ _ _ _).trans (congrArg k0_pay1 ((ld_whole3 _ _ _).trans (er_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))))
    isplitl [H7]
    · iexists _; isplitr; swap; · iexact H7
      ipureintro
      exact (cc_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))
    isplitl [H8]
    · iexists _; isplitr; swap; · iexact H8
      ipureintro
      exact hf8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _; isplitr; swap; · iexact H12
      ipureintro
      exact (dga_read c i arg1 harg1 arg2 harg2 arg3 harg3 arg4 harg4 arg5 harg5 arg6 harg6 arg7 harg7 arg8 harg8 arg9 harg9 arg10 harg10 arg11 harg11 arg12 harg12 arg13 harg13 arg14 harg14 _ _ hf0 hf1 (rb_read arg4 arg11 hf3 _ _ _ _) hf12)
    iexists _; isplitr; swap; · iexact H13
    ipureintro
    exact (ec_read c i arg1 harg1 arg2 harg2 arg3 harg3 arg4 harg4 arg5 harg5 arg6 harg6 arg7 harg7 arg8 harg8 arg9 harg9 arg10 harg10 arg11 harg11 arg12 harg12 arg13 harg13 arg14 harg14 _ _ hf13 hf0 hf1 hf2 (rb_read arg4 arg11 hf3 _ _ _ _) (mean_read c i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ hf0 hf1 hf2 (rb_read arg4 arg11 hf3 _ _ _ _) (st_whole2 _ _ _ _ _)))

end Cert.KernelIdeal.Hand

end
-- ==== Proof.KernelIdealRun.lean ====
/- The idealized kernel's run, with what it computes: after every grid point each output's buffer holds what the point's
   blocks give, the carried terms of dgamma are those of the points so far, and the carried column scale codes are known for
   the points so far. The frame follows. -/
module

public import proofs.«01_k».proof.Proof.BodyValue
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point of a number below 14. -/
def pt (n : ℕ) (h : n < 14) : Fin cfg0.N := ⟨n, Nat.lt_of_lt_of_eq h N_0.symm⟩

/-- The terms of dgamma after `n` points. -/
def dgaAt (c : Dev nD) : ℕ → Vec F S8x12288 .f32
  | 0 => k0_pay24
  | n + 1 => if h : n < 14 then dgaNext (iblk m c 0 (pt n h)) (iblk m c 1 (pt n h)) (iblk m c 3 (pt n h)) (dgaAt c n) else dgaAt c n

/-- The column scale codes of the whole array: row `i` is what point `i` computes. -/
def ecAll (c : Dev nD) : Vec F S14x4x12288 .i32 := fun y =>
  ecNext (iblk m c 0 (pt (y 0).val (y 0).isLt)) (iblk m c 1 (pt (y 0).val (y 0).isLt)) (iblk m c 2 (pt (y 0).val (y 0).isLt)) (iblk m c 3 (pt (y 0).val (y 0).isLt)) (y 0) (fun _ => 0#32) y

/-- The partial rows of dgamma after one more point. -/
theorem dgaAt_succ (c : Dev nD) (t : Fin cfg0.N) :
    dgaAt m c (t.val + 1) = dgaNext (iblk m c 0 t) (iblk m c 1 t) (iblk m c 3 t) (dgaAt m c t.val) := by
  have ht : t.val < 14 := Nat.lt_of_lt_of_eq t.isLt N_0
  show (if h : t.val < 14 then _ else _) = _
  rw [dif_pos ht]; rfl

/-- A point's coordinate is its number. -/
theorem coord_val (t : Fin cfg0.N) : (grid0.coords t 0).val = t.val := by
  have ht : t.val < 14 := Nat.lt_of_lt_of_eq t.isLt N_0
  have e0 : (grid0.coords t 0).val = t.val / 1 % 14 := Pipeline.Grid.coords_val t 0 (by decide) rfl
  rw [e0]; omega

/-- After a point the rows of column scale codes up to and including the point's are known. -/
theorem ecNext_known (c : Dev nD) (t : Fin cfg0.N) (E : Vec F S14x4x12288 .i32)
    (hE : ∀ y : S14x4x12288.Idx, (y 0).val < t.val → E y = ecAll m c y) (y : S14x4x12288.Idx) (hy : (y 0).val < t.val + 1) :
    ecNext (iblk m c 0 t) (iblk m c 1 t) (iblk m c 2 t) (iblk m c 3 t) (grid0.coords t 0) E y = ecAll m c y := by
  by_cases h : (y 0).val = t.val
  · have e : t = pt (y 0).val (y 0).isLt := Fin.ext h.symm
    have e' : (y 0).val = (grid0.coords t 0).val := h.trans (coord_val t).symm
    unfold ecAll ecNext
    rw [if_pos e', if_pos rfl, ← e]
  · have e' : ¬(y 0).val = (grid0.coords t 0).val := fun q => h (q.trans (coord_val t))
    unfold ecNext
    rw [if_neg e']
    exact hE y (by omega)

/-- At the last point the carried column scale codes become complete. -/
theorem ecNext_last (c : Dev nD) (t : Fin cfg0.N) (h : t.val = 13) (E : Vec F S14x4x12288 .i32)
    (hE : ∀ y : S14x4x12288.Idx, (y 0).val < t.val → E y = ecAll m c y) :
    ecNext (iblk m c 0 t) (iblk m c 1 t) (iblk m c 2 t) (iblk m c 3 t) (grid0.coords t 0) E = ecAll m c :=
  funext fun y => ecNext_known m c t E hE y (by have : (y 0).val < 14 := (y 0).isLt; omega)

/-- The body's invariant before point `n`. -/
def PhiS (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ D, ⌜n ≠ 0 → D = dgaAt m c n⌝ ∗ owns (c : Thread nD τ) scM0_3 fullShare D) ∗ (∃ E, ⌜∀ y : S14x4x12288.Idx, (y 0).val < n → E y = ecAll m c y⌝ ∗ owns (c : Thread nD τ) scM0_4 fullShare E)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (dgaAt m c (t.val + 1))
    | ⟨5, _⟩ => crB (iblk m c 0 t) (iblk m c 1 t) (iblk m c 2 t) (iblk m c 3 t)
    | ⟨6, _⟩ => srB (iblk m c 0 t) (iblk m c 1 t) (iblk m c 2 t) (iblk m c 3 t)
    | ⟨7, _⟩ => ccB (iblk m c 0 t) (iblk m c 1 t) (iblk m c 2 t) (iblk m c 3 t)
    | ⟨8, _⟩ => scB (ecAll m c)
  Φ t := PhiS m c t.val
  q _ := fullShare
  owed _ := 0

/-- The array of a window at the launch is the host value it is given. -/
theorem A_eq (c : Dev nD) (w : Fin cfg0.W) : (dats m 0 c).A w = V m c (Pipeline.arrRef spec0 w) := by
  dsimp only [dats]

/-- What window 0 (x) holds after a point. -/
theorem after0_0 (c : Dev nD) (t : Fin cfg0.N) : (dats m 0 c).after 0 t = iblk m c 0 t := by dsimp only [dats]
/-- What window 1 (dy) holds after a point. -/
theorem after0_1 (c : Dev nD) (t : Fin cfg0.N) : (dats m 0 c).after 1 t = iblk m c 1 t := by dsimp only [dats]
/-- What window 2 (gamma) holds after a point. -/
theorem after0_2 (c : Dev nD) (t : Fin cfg0.N) : (dats m 0 c).after 2 t = iblk m c 2 t := by dsimp only [dats]
/-- What window 3 (rstd) holds after a point. -/
theorem after0_3 (c : Dev nD) (t : Fin cfg0.N) : (dats m 0 c).after 3 t = iblk m c 3 t := by dsimp only [dats]
/-- What window 4 (dgamma) holds after a point. -/
theorem after0_4 (c : Dev nD) (t : Fin cfg0.N) : (dats m 0 c).after 4 t = k0_pay2 (dgaAt m c (t.val + 1)) := by dsimp only [dats]
/-- What window 5 (row codes) holds after a point. -/
theorem after0_5 (c : Dev nD) (t : Fin cfg0.N) : (dats m 0 c).after 5 t = crB (iblk m c 0 t) (iblk m c 1 t) (iblk m c 2 t) (iblk m c 3 t) := by dsimp only [dats]
/-- What window 6 (row scale codes) holds after a point. -/
theorem after0_6 (c : Dev nD) (t : Fin cfg0.N) : (dats m 0 c).after 6 t = srB (iblk m c 0 t) (iblk m c 1 t) (iblk m c 2 t) (iblk m c 3 t) := by dsimp only [dats]
/-- What window 7 (column codes) holds after a point. -/
theorem after0_7 (c : Dev nD) (t : Fin cfg0.N) : (dats m 0 c).after 7 t = ccB (iblk m c 0 t) (iblk m c 1 t) (iblk m c 2 t) (iblk m c 3 t) := by dsimp only [dats]
/-- What window 8 (column scale codes) holds after a point. -/
theorem after0_8 (c : Dev nD) (t : Fin cfg0.N) : (dats m 0 c).after 8 t = scB (ecAll m c) := by dsimp only [dats]
/-- What window 0 (x) holds before a point: its block. -/
theorem before0_0 (c : Dev nD) (t : Fin cfg0.N) (d) : (dats m 0 c).before 0 t d = iblk m c 0 t :=
  before0_0_of m (dats m 0 c) (A_eq m c 0) (after0_0 m c) t d
/-- What window 1 (dy) holds before a point: its block. -/
theorem before0_1 (c : Dev nD) (t : Fin cfg0.N) (d) : (dats m 0 c).before 1 t d = iblk m c 1 t :=
  before0_1_of m (dats m 0 c) (A_eq m c 1) (after0_1 m c) t d
/-- What window 2 (gamma) holds before a point: its block. -/
theorem before0_2 (c : Dev nD) (t : Fin cfg0.N) (d) : (dats m 0 c).before 2 t d = iblk m c 2 t :=
  before0_2_of m (dats m 0 c) (A_eq m c 2) (after0_2 m c) t d
/-- What window 3 (rstd) holds before a point: its block. -/
theorem before0_3 (c : Dev nD) (t : Fin cfg0.N) (d) : (dats m 0 c).before 3 t d = iblk m c 3 t :=
  before0_3_of m (dats m 0 c) (A_eq m c 3) (after0_3 m c) t d

/-! Which windows a point leaves as it found them: dgamma and the column scale codes, except at the last point. -/
/-- Window 0 (x) is in use at every point. -/
theorem live0 : ∀ t : Fin cfg0.N, cfg0.idle 0 (grid0.coords t) = false := fun _ => rfl
/-- Window 1 (dy) is in use at every point. -/
theorem live1 : ∀ t : Fin cfg0.N, cfg0.idle 1 (grid0.coords t) = false := fun _ => rfl
/-- Window 2 (gamma) is in use at every point. -/
theorem live2 : ∀ t : Fin cfg0.N, cfg0.idle 2 (grid0.coords t) = false := fun _ => rfl
/-- Window 3 (rstd) is in use at every point. -/
theorem live3 : ∀ t : Fin cfg0.N, cfg0.idle 3 (grid0.coords t) = false := fun _ => rfl
/-- Window 5 (row codes) is in use at every point. -/
theorem live5 : ∀ t : Fin cfg0.N, cfg0.idle 5 (grid0.coords t) = false := fun _ => rfl
/-- Window 6 (row scale codes) is in use at every point. -/
theorem live6 : ∀ t : Fin cfg0.N, cfg0.idle 6 (grid0.coords t) = false := fun _ => rfl
/-- Window 7 (column codes) is in use at every point. -/
theorem live7 : ∀ t : Fin cfg0.N, cfg0.idle 7 (grid0.coords t) = false := fun _ => rfl
/-- dgamma is left alone except at the last point. -/
theorem idle4 : ∀ t : Fin cfg0.N, ¬cond0_1 (grid0.coords t) → cfg0.idle 4 (grid0.coords t) = true := by decide +kernel
/-- dgamma is not written back before the last point. -/
theorem noFlush4 : ∀ t : Fin cfg0.N, ¬cond0_1 (grid0.coords t) → (cfg0.win 4).flush t = false := by decide +kernel
/-- dgamma is written at the last point. -/
theorem live4 : ∀ t : Fin cfg0.N, cond0_1 (grid0.coords t) → cfg0.idle 4 (grid0.coords t) = false := by decide +kernel
/-- The column scale codes are left alone except at the last point. -/
theorem idle8 : ∀ t : Fin cfg0.N, ¬cond0_1 (grid0.coords t) → cfg0.idle 8 (grid0.coords t) = true := by decide +kernel
/-- The column scale codes are not written back before the last point. -/
theorem noFlush8 : ∀ t : Fin cfg0.N, ¬cond0_1 (grid0.coords t) → (cfg0.win 8).flush t = false := by decide +kernel
/-- The column scale codes are written at the last point. -/
theorem live8 : ∀ t : Fin cfg0.N, cond0_1 (grid0.coords t) → cfg0.idle 8 (grid0.coords t) = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  rw [show (dats m 0 c).leavesExact 2 t = owns (c : Thread nD τ) (ms0_2 t) fullShare ((dats m 0 c).after 2 t) from by
    unfold Dat.leavesExact; rw [live2 t], after0_2]
  rw [show (dats m 0 c).leavesExact 3 t = owns (c : Thread nD τ) (ms0_3 t) fullShare ((dats m 0 c).after 3 t) from by
    unfold Dat.leavesExact; rw [live3 t], after0_3]
  rw [show (dats m 0 c).leavesExact 5 t = owns (c : Thread nD τ) (ms0_5 t) fullShare ((dats m 0 c).after 5 t) from by
    unfold Dat.leavesExact; rw [live5 t], after0_5]
  rw [show (dats m 0 c).leavesExact 6 t = owns (c : Thread nD τ) (ms0_6 t) fullShare ((dats m 0 c).after 6 t) from by
    unfold Dat.leavesExact; rw [live6 t], after0_6]
  rw [show (dats m 0 c).leavesExact 7 t = owns (c : Thread nD τ) (ms0_7 t) fullShare ((dats m 0 c).after 7 t) from by
    unfold Dat.leavesExact; rw [live7 t], after0_7]
  by_cases hc1 : cond0_1 (grid0.coords t)
  · rw [show (dats m 0 c).leavesExact 4 t = owns (c : Thread nD τ) (ms0_4 t) fullShare ((dats m 0 c).after 4 t) from by
      unfold Dat.leavesExact; rw [live4 t hc1], after0_4]
    rw [show (dats m 0 c).leavesExact 8 t = owns (c : Thread nD τ) (ms0_8 t) fullShare ((dats m 0 c).after 8 t) from by
      unfold Dat.leavesExact; rw [live8 t hc1], after0_8]
    iintro ⟨⟨⟨HS0, HS1, HS2, ⟨%D, %hD, HS3⟩, ⟨%E, %hE, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hdga : dgaNext (iblk m c 0 t) (iblk m c 1 t) (iblk m c 3 t) (if cond0_0 (grid0.coords t) then k0_pay24 else D) = dgaAt m c (t.val + 1) := by
      rw [dgaAt_succ]
      by_cases hz : t.val = 0
      · rw [if_pos ((hcond0_0 t).mpr hz), hz]; rfl
      · rw [if_neg (fun q => hz ((hcond0_0 t).mp q)), hD hz]
    have hpost := bodyVal (F := F) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) ((dats m 0 c).before 4 t d4) ((dats m 0 c).before 8 t d8) D E Set.univ
    simp only [hdga] at hpost
    simp only [if_pos hc1] at hpost
    iapply (hpost _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]
        · iexists _; isplitr; swap; · iexact HS3
          ipureintro; exact fun _ => rfl
        iexists _; isplitr; swap; · iexact HS4
        ipureintro; exact ecNext_known m c t E hE
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [ecNext_last m c t ((hcond0_1 t).mp hc1) E hE]; iexact H8
  · rw [Dat.leavesExact_idle (dats m 0 c) 4 t (idle4 t hc1) (noFlush4 t hc1)]
    rw [Dat.leavesExact_idle (dats m 0 c) 8 t (idle8 t hc1) (noFlush8 t hc1)]
    iintro ⟨⟨⟨HS0, HS1, HS2, ⟨%D, %hD, HS3⟩, ⟨%E, %hE, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hdga : dgaNext (iblk m c 0 t) (iblk m c 1 t) (iblk m c 3 t) (if cond0_0 (grid0.coords t) then k0_pay24 else D) = dgaAt m c (t.val + 1) := by
      rw [dgaAt_succ]
      by_cases hz : t.val = 0
      · rw [if_pos ((hcond0_0 t).mpr hz), hz]; rfl
      · rw [if_neg (fun q => hz ((hcond0_0 t).mp q)), hD hz]
    have hpost := bodyVal (F := F) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) ((dats m 0 c).before 4 t d4) ((dats m 0 c).before 8 t d8) D E Set.univ
    simp only [hdga] at hpost
    simp only [if_neg hc1] at hpost
    iapply (hpost _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]
        · iexists _; isplitr; swap; · iexact HS3
          ipureintro; exact fun _ => rfl
        iexists _; isplitr; swap; · iexact HS4
        ipureintro; exact ecNext_known m c t E hE
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    iexists _; iexact H8

/-- The body that the launch runs at a point is the body with that point's buffers. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- What the launch gives at the start meets the invariant of the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, HS1, HS2, ⟨%D, HS3⟩, ⟨%E, HS4⟩⟩, Hg⟩
  isplitl [HS0 HS1 HS2 HS3 HS4]
  · isplitl [HS0]; · iexact HS0
    isplitl [HS1]; · iexact HS1
    isplitl [HS2]; · iexact HS2
    isplitl [HS3]
    · iexists D; isplitr; swap; · iexact HS3
      ipureintro; exact fun h => absurd rfl h
    iexists E; isplitr; swap; · iexact HS4
    ipureintro; exact fun y h => absurd h (Nat.not_lt_zero _)
  iexact Hg

/-- The invariant after the last point gives back what the launch wants. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, HS1, HS2, ⟨%D, %hD, HS3⟩, ⟨%E, %hE, HS4⟩⟩, Hg⟩
  isplitl [HS0 HS1 HS2 HS3 HS4]
  · isplitl [HS0]; · iexact HS0
    isplitl [HS1]; · iexact HS1
    isplitl [HS2]; · iexact HS2
    isplitl [HS3]; · iexists D; iexact HS3
    iexists E; iexact HS4
  iexact Hg

set_option backward.isDefEq.respectTransparency.types false in
/-- The run: every execution ends, every array of the pipeline at what the body's outputs give, every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run m ρ))

/-- The frame: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_unchanged m ρ) ((θ_run defs _ _).mono (fun _ h => h.2) (run m ρ))

end Cert.KernelIdeal.Hand

end
-- ==== Proof.Spec.lean ====
/- The mathematics of the claim, on extended reals: a row of the gradient, the greatest magnitude of a block of 32, the
   exponent that the kernel finds of it bit by bit, the scale, the code and the scale code. -/
module

public import Idealize.ShloMosaic.Lib.Pointwise

@[expose] public section

set_option maxRecDepth 16384

noncomputable section

namespace Cert.Mx

open Idealize.ShloMosaic

/-- The mean of a row's products. -/
def rowMean (x dy g : Fin 12288 → EReal) (r : EReal) : EReal := (∑ L, dy L * g L * (x L * r)) * ((1 / 12288 : ℝ) : EReal)
/-- A row of the gradient. -/
def rowDx (x dy g : Fin 12288 → EReal) (r : EReal) (L : Fin 12288) : EReal :=
  r * (dy L * g L - x L * r * rowMean x dy g r)

/-- The magnitude of an element, -/
def mag (v : EReal) : EReal := FloatOps.absf (F := Ideal) (φ := .f32) v
/-- the greatest of 32 values, -/
def amax (f : Fin 32 → EReal) : EReal := Finset.univ.fold max (Ideal.ofBits .f32 0xFF800000#32) f
/-- and the argument of the exponent of a block of 32. -/
def arg (f : Fin 32 → EReal) : EReal := amax (fun t => mag (f t)) * Ideal.ofBits .f32 0x37924925#32

/-- One step of the search for the exponent field: the bit is kept where the power of two is not above `q`. -/
def step (q : EReal) (b bit : BitVec 32) : BitVec 32 :=
  Scalar.select (FloatOps.cmpf (F := Ideal) (φ := .f32) .oge q (FloatOps.ofBits (F := Ideal) .f32 (IntOp.shli .vector (IntOp.addi b bit) 23#32))) (IntOp.addi b bit) b
/-- The search, from the highest bit to the lowest. -/
def search (q : EReal) : BitVec 32 :=
  step q (step q (step q (step q (step q (step q (step q (step q 0#32 128#32) 64#32) 32#32) 16#32) 8#32) 4#32) 2#32) 1#32
/-- The exponent field the kernel finds, -/
def biased (q : EReal) : BitVec 32 := Scalar.select (FloatOps.cmpf (F := Ideal) (φ := .f32) .one q q) 255#32 (search q)
/-- the exponent, -/
def expK (q : EReal) : BitVec 32 :=
  Scalar.select (IntOp.cmpi .eq (biased q) 0#32) 0#32 (IntOp.subi (biased q) 126#32)
/-- and the scale of an exponent, from its bits. -/
def scaleK (e : BitVec 32) : EReal := FloatOps.ofBits (F := Ideal) .f32 (IntOp.shli .vector (IntOp.subi 127#32 e) 23#32)

/-- The scale code of an exponent, -/
def word (e : BitVec 32) : BitVec 8 :=
  BitVec.setWidth 8 (IntOp.minsi 254#32 (IntOp.maxsi 0#32 (IntOp.addi e 127#32)))
/-- and the code of an element under a scale. -/
def code (d s : EReal) : EReal := min (Ideal.ofBits .f32 0x47600000#32) (max (Ideal.ofBits .f32 0xC7600000#32) (d * s))

end Cert.Mx

end
-- ==== Proof.KernelPoint.lean ====
/- The kernel's payloads of one slice of 128 columns, read at an element. -/
module

public import proofs.«01_k».proof.Proof.Tiles
public import proofs.«01_k».proof.Proof.Spec

@[expose] public section

set_option maxRecDepth 16384

noncomputable section

namespace Cert.KernelIdeal.Hand

open Idealize.ShloMosaic Idealize.ShloMosaic.TcCoe Idealize.ShloMosaic.Tactic
open Cert.KernelIdeal.Gen Cert.Mx

variable (X Y : Vec Ideal S128x128 .bf16) (G : Vec Ideal S1x128 .f32) (rb mn : Vec Ideal S128x128 .f32)

/-- dx of a slice, at an element. -/
theorem pay4_at (a l : Fin 128) :
    k0_pay4 X Y G rb mn (ix2 a l) = rb (ix2 a l) * (Y (ix2 a l) * G (ix2 0 l) - X (ix2 a l) * rb (ix2 a l) * mn (ix2 a l)) := by
  pointwise [k0_pay4]

/-- The argument of the exponent of 32 rows of a column of a slice. -/
theorem q60_at (a : Fin 4) (l : Fin 128) :
    q60 X Y G rb mn (ix2 a l) = arg fun t => k0_pay4 X Y G rb mn (ix2 ⟨32 * a.val + t.val, by omega⟩ l) := by
  unfold q60
  pointwise [k0_pay6, k0_pay5, arg, amax, mag, Nat.mul_comm]

/-- The argument of the exponent of 32 columns of a row of a slice. -/
theorem q160_at (a : Fin 4) (l : Fin 128) :
    q160 X Y G rb mn (ix2 a l) = arg fun t => k0_pay4 X Y G rb mn (ix2 l ⟨32 * a.val + t.val, by omega⟩) := by
  unfold q160
  pointwise [k0_pay15, k0_pay5, arg, amax, mag, Nat.mul_comm]

/-- The exponents of the columns' blocks. -/
theorem expC_at (y : S4x128.Idx) :
    k0_pay12 (k0_pay9 (q60 X Y G rb mn) (q75 X Y G rb mn) (q77 X Y G rb mn)) (k0_pay10 (q60 X Y G rb mn) (q75 X Y G rb mn) (q77 X Y G rb mn)) k0_pay11 y
      = expK (q60 X Y G rb mn y) := rfl

/-- The exponents of the rows' blocks. -/
theorem expR_at (y : S4x128.Idx) :
    k0_pay21 (q160 X Y G rb mn) (q210 X Y G rb mn) (q212 X Y G rb mn) 23#32 y = expK (q160 X Y G rb mn y) := rfl

/-- The low byte of a column scale code of a slice. -/
theorem ecolS_at (a : Fin 4) (l : Fin 128) :
    (ecolS X Y G rb mn (ix3 0 a l)).setWidth 8 = word (expK (q60 X Y G rb mn (ix2 a l))) := by
  rw [← expC_at]
  unfold ecolS
  pointwise [k0_pay13, word]

/-- The low byte of a row scale code of a slice. -/
theorem erowS_at (a : Fin 4) (l : Fin 128) :
    (erowS X Y G rb mn (ix3 0 a l)).setWidth 8 = word (expK (q160 X Y G rb mn (ix2 a l))) := by
  rw [← expR_at]
  unfold erowS
  pointwise [k0_pay22, word]

/-- A column code of a slice. -/
theorem ccS_at (a l : Fin 128) :
    ccS X Y G rb mn (ix2 l a)
      = code (k0_pay4 X Y G rb mn (ix2 a l)) (scaleK (expK (q60 X Y G rb mn (ix2 ⟨a.val / 32, by omega⟩ l)))) := by
  rw [← expC_at]
  unfold ccS
  pointwise [k0_pay14, code, scaleK]

/-- A row code of a slice. -/
theorem crS_at (a l : Fin 128) :
    crS X Y G rb mn (ix2 a l)
      = code (k0_pay4 X Y G rb mn (ix2 a l)) (scaleK (expK (q160 X Y G rb mn (ix2 ⟨l.val / 32, by omega⟩ a)))) := by
  rw [← expR_at]
  unfold crS
  pointwise [k0_pay23, code, scaleK]

/-- rstd spread over the lanes: a row's value in each of its lanes. -/
theorem pay25_at (x3 : Vec Ideal S1x1x128 .f32) (a l : Fin 128) : k0_pay25 x3 (ix2 a l) = x3 (ix3 0 0 a) := by
  pointwise [k0_pay25]

/-- The first loop's accumulator starts at zero. -/
theorem pay26_at (a l : Fin 128) : k0_pay26 (F := Ideal) (ix2 a l) = 0 := by
  pointwise [k0_pay26]

/-- The eight partial rows of dgamma start at zero. -/
theorem pay24_at (a : Fin 8) (l : Fin 12288) : k0_pay24 (F := Ideal) (ix2 a l) = 0 := by
  pointwise [k0_pay24]

/-- The mean: the sum of a row of the accumulator by 1/12288, in each lane. -/
theorem pay31_at (A : Vec Ideal S128x128 .f32) (a l : Fin 128) :
    k0_pay31 A (ix2 a l) = (∑ k, A (ix2 a k)) * ((1 / 12288 : ℝ) : EReal) := by
  pointwise [k0_pay31]
  rfl

/-- What a trip of the first loop makes of the accumulator, at an element. -/
theorem pay29_at (A : Vec Ideal S128x128 .f32) (a l : Fin 128) :
    k0_pay29 X Y G rb A (ix2 a l) = A (ix2 a l) + Y (ix2 a l) * G (ix2 0 l) * (X (ix2 a l) * rb (ix2 a l)) := by
  pointwise [k0_pay29, k0_pay27, k0_pay28]

/-- What a trip of the first loop makes of the eight partial rows of dgamma, at an element. -/
theorem pay30_at (D : Vec Ideal S8x128 .f32) (a : Fin 8) (l : Fin 128) :
    k0_pay30 X Y rb D (ix2 a l) = D (ix2 a l)
      + ∑ u : Fin 16, Y (ix2 ⟨8 * u.val + a.val, by omega⟩ l) * (X (ix2 ⟨8 * u.val + a.val, by omega⟩ l) * rb (ix2 ⟨8 * u.val + a.val, by omega⟩ l)) := by
  pointwise [k0_pay30, k0_pay27, k0_pay28, Nat.mul_comm]

/-- The sum of the eight partial rows of dgamma, at a column. -/
theorem pay2_at (D : Vec Ideal S8x12288 .f32) (l : Fin 12288) : k0_pay2 D (ix2 0 l) = ∑ s : Fin 8, D (ix2 s l) := by
  pointwise [k0_pay2]

/-- The row scale codes, turned and cut to a byte, at an element. -/
theorem pay1_at (E : Vec Ideal S96x4x128 .i32) (a : Fin 128) (k : Fin 384) :
    k0_pay1 (F := Ideal) E (ix2 a k) = (E (ix3 ⟨k.val / 4, by omega⟩ ⟨k.val % 4, by omega⟩ a)).setWidth 8 := by
  pointwise [k0_pay1]

/-- The column scale codes of a slice, turned and cut to a byte, at an element. -/
theorem pay3_at (E : Vec Ideal S14x4x128 .i32) (a : Fin 128) (k : Fin 56) :
    k0_pay3 (F := Ideal) E (ix2 a k) = (E (ix3 ⟨k.val / 4, by omega⟩ ⟨k.val % 4, by omega⟩ a)).setWidth 8 := by
  pointwise [k0_pay3]

end Cert.KernelIdeal.Hand

end
-- ==== Proof.KernelBlock.lean ====
/- What one grid point computes, at an element of its block: the codes and scale codes of the gradient's rows, and the terms
   it adds to dgamma. -/
module

public import proofs.«01_k».proof.Proof.KernelPoint

@[expose] public section

set_option maxRecDepth 16384

noncomputable section

namespace Cert.KernelIdeal.Hand

open Idealize.ShloMosaic Idealize.ShloMosaic.TcCoe Idealize.ShloMosaic.Tactic
open Cert.KernelIdeal.Gen Cert.Mx

/-- A column as its slice and its place there. -/
def colEquiv : Fin 128 × Fin 96 ≃ Fin 12288 where
  toFun p := col p.2 p.1
  invFun L := (lOf L, jOf L)
  left_inv p := by simp
  right_inv L := by simp

/-- A sum over the columns is a sum over lanes of sums over slices. -/
theorem sum_col {M : Type} [AddCommMonoid M] (f : Fin 12288 → M) : ∑ L, f L = ∑ l : Fin 128, ∑ j : Fin 96, f (col j l) := by
  rw [← Equiv.sum_comp colEquiv f, Fintype.sum_prod_type]
  rfl

/-- A slice of columns, at an element. -/
@[simp] theorem slice2_at {n : ℕ} {α : Type} (X : (⟨2, ![n, 12288]⟩ : Shape).Idx → α) (j : Fin 96) (a : Fin n) (l : Fin 128) :
    slice2 X j (ix2 a l) = X (ix2 a (col j l)) := rfl

variable (x0 x1 : Vec Ideal S128x12288 .bf16) (x2 : Vec Ideal S1x12288 .f32) (x3 : Vec Ideal S1x1x128 .f32)

/-- The block's rows of the gradient. -/
def bdx (a : Fin 128) (L : Fin 12288) : EReal :=
  rowDx (fun L => x0 (ix2 a L)) (fun L => x1 (ix2 a L)) (fun L => x2 (ix2 0 L)) (x3 (ix3 0 0 a)) L

/-- The first loop's accumulator after `k` trips, at a lane: the sum of the terms of the first `k` slices. -/
theorem acc_at (a l : Fin 128) (k : ℕ) (hk : k ≤ 96) :
    acc x0 x1 x2 (k0_pay25 x3) k (ix2 a l) = ∑ i ∈ Finset.range k,
      (if h : i < 96 then x1 (ix2 a (col ⟨i, h⟩ l)) * x2 (ix2 0 (col ⟨i, h⟩ l)) * (x0 (ix2 a (col ⟨i, h⟩ l)) * x3 (ix3 0 0 a)) else 0) := by
  induction k with
  | zero => exact pay26_at a l
  | succ k ih =>
    have h : k < 96 := hk
    rw [Finset.sum_range_succ, ← ih (Nat.le_of_lt h), dif_pos h]
    show (if h : k < 96 then _ else _ : Vec Ideal S128x128 .f32) (ix2 a l) = _
    rw [dif_pos h, pay29_at, pay25_at]
    rfl

/-- The mean of a row. -/
theorem meanB_at (a l : Fin 128) :
    meanB x0 x1 x2 x3 (ix2 a l)
      = rowMean (fun L => x0 (ix2 a L)) (fun L => x1 (ix2 a L)) (fun L => x2 (ix2 0 L)) (x3 (ix3 0 0 a)) := by
  unfold meanB rowMean
  rw [pay31_at, sum_col]
  refine congrArg (· * _) (Finset.sum_congr rfl fun k _ => ?_)
  rw [acc_at x0 x1 x2 x3 a k 96 le_rfl, Finset.sum_range]
  refine Finset.sum_congr rfl fun j _ => ?_
  rw [dif_pos j.isLt]

/-- The gradient at an element of a slice. -/
theorem dx_at (j : Fin 96) (a l : Fin 128) :
    k0_pay4 (slice2 x0 j) (slice2 x1 j) (slice2 x2 j) (k0_pay25 x3) (meanB x0 x1 x2 x3) (ix2 a l) = bdx x0 x1 x2 x3 a (col j l) := by
  rw [pay4_at, pay25_at, meanB_at]
  rfl

/-- The argument of the exponent of a row's 32 columns, -/
def argR (a : Fin 128) (k : Fin 384) : EReal := arg fun t => bdx x0 x1 x2 x3 a ⟨32 * k.val + t.val, by omega⟩
/-- and of a column's 32 rows. -/
def argC (q : Fin 4) (L : Fin 12288) : EReal := arg fun t => bdx x0 x1 x2 x3 ⟨32 * q.val + t.val, by omega⟩ L

/-- The argument of a row block's exponent in a slice is that of the block's own row. -/
theorem argR_at (j : Fin 96) (k : Fin 4) (a : Fin 128) :
    q160 (slice2 x0 j) (slice2 x1 j) (slice2 x2 j) (k0_pay25 x3) (meanB x0 x1 x2 x3) (ix2 k a)
      = argR x0 x1 x2 x3 a ⟨4 * j.val + k.val, by omega⟩ := by
  rw [q160_at]
  refine congrArg arg (funext fun t => ?_)
  rw [dx_at]
  exact congrArg (bdx x0 x1 x2 x3 a) (Fin.ext (by show 128 * j.val + (32 * k.val + t.val) = 32 * (4 * j.val + k.val) + t.val; omega))

/-- The argument of a column block's exponent in a slice is that of the block's own column. -/
theorem argC_at (j : Fin 96) (q : Fin 4) (l : Fin 128) :
    q60 (slice2 x0 j) (slice2 x1 j) (slice2 x2 j) (k0_pay25 x3) (meanB x0 x1 x2 x3) (ix2 q l)
      = argC x0 x1 x2 x3 q (col j l) := by
  rw [q60_at]
  refine congrArg arg (funext fun t => ?_)
  rw [dx_at]

/-- The row codes of the point's block. -/
theorem crB_at (a : Fin 128) (L : Fin 12288) :
    crB x0 x1 x2 x3 (ix2 a L) = code (bdx x0 x1 x2 x3 a L) (scaleK (expK (argR x0 x1 x2 x3 a ⟨L.val / 32, by omega⟩))) := by
  show crS (slice2 x0 (jOf L)) (slice2 x1 (jOf L)) (slice2 x2 (jOf L)) (k0_pay25 x3) (meanB x0 x1 x2 x3) (ix2 a (lOf L)) = _
  rw [crS_at, dx_at, argR_at, col_jl]
  refine congrArg (fun k => code _ (scaleK (expK (argR x0 x1 x2 x3 a k)))) (Fin.ext ?_)
  show 4 * (L.val / 128) + L.val % 128 / 32 = L.val / 32
  omega

/-- The row scale codes of the point's block. -/
theorem srB_at (a : Fin 128) (k : Fin 384) :
    srB x0 x1 x2 x3 (ix2 a k) = word (expK (argR x0 x1 x2 x3 a k)) := by
  unfold srB
  rw [pay1_at]
  refine (erowS_at (slice2 x0 ⟨k.val / 4, by omega⟩) (slice2 x1 ⟨k.val / 4, by omega⟩) (slice2 x2 ⟨k.val / 4, by omega⟩) (k0_pay25 x3)
    (meanB x0 x1 x2 x3) ⟨k.val % 4, by omega⟩ a).trans ?_
  rw [argR_at]
  refine congrArg (fun k => word (expK (argR x0 x1 x2 x3 a k))) (Fin.ext ?_)
  show 4 * (k.val / 4) + k.val % 4 = k.val
  omega

/-- The column codes of the point's block. -/
theorem ccB_at (a : Fin 128) (L : Fin 12288) :
    ccB x0 x1 x2 x3 (ix2 L a) = code (bdx x0 x1 x2 x3 a L) (scaleK (expK (argC x0 x1 x2 x3 ⟨a.val / 32, by omega⟩ L))) := by
  show ccS (slice2 x0 (jOf L)) (slice2 x1 (jOf L)) (slice2 x2 (jOf L)) (k0_pay25 x3) (meanB x0 x1 x2 x3) (ix2 (lOf L) a) = _
  rw [ccS_at, dx_at, argC_at, col_jl]

/-- The column scale codes the point writes. -/
theorem ecNext_at (i : Fin 14) (E : Vec Ideal S14x4x12288 .i32) (q : Fin 4) (L : Fin 12288) :
    (ecNext x0 x1 x2 x3 i E (ix3 i q L)).setWidth 8 = word (expK (argC x0 x1 x2 x3 q L)) := by
  have e : ecNext x0 x1 x2 x3 i E (ix3 i q L)
      = ecolS (slice2 x0 (jOf L)) (slice2 x1 (jOf L)) (slice2 x2 (jOf L)) (k0_pay25 x3) (meanB x0 x1 x2 x3) (ix3 (0 : Fin 1) q (lOf L)) := if_pos rfl
  rw [e, ecolS_at, argC_at, col_jl]

/-- The terms of dgamma after the point. -/
theorem dgaNext_at (D : Vec Ideal S8x12288 .f32) (s : Fin 8) (L : Fin 12288) :
    dgaNext x0 x1 x3 D (ix2 s L) = D (ix2 s L)
      + ∑ u : Fin 16, x1 (ix2 ⟨8 * u.val + s.val, by omega⟩ L) * (x0 (ix2 ⟨8 * u.val + s.val, by omega⟩ L) * x3 (ix3 0 0 ⟨8 * u.val + s.val, by omega⟩)) := by
  show k0_pay30 (slice2 x0 (jOf L)) (slice2 x1 (jOf L)) (k0_pay25 x3) (slice2 D (jOf L)) (ix2 s (lOf L)) = _
  rw [pay30_at]
  simp only [slice2_at, col_jl, pay25_at]

end Cert.KernelIdeal.Hand

end
-- ==== Proof.Quant.lean ====
/- The quantiser's exponent and scale: what the bit-by-bit search finds in a finite nonnegative number is what counting the
   powers of two below it gives, and the scale built from the exponent's bits is the power of two. -/
module

public import proofs.«01_k».proof.Proof.Spec
public import Idealize.ShloMosaic.Lib.IndicatorCount

@[expose] public section

set_option maxRecDepth 16384

noncomputable section

namespace Cert.Mx

open Idealize.ShloMosaic

/-! ## Constants -/

/-- The bits of an exponent field between 1 and 254 with an empty fraction. -/
theorem field_bits : ∀ c : Fin 255,
    ((IntOp.shli .vector (BitVec.ofNat 32 c.val) 23#32 : BitVec 32).extractLsb' 31 1 == 1#1) = false ∧
    ((IntOp.shli .vector (BitVec.ofNat 32 c.val) 23#32 : BitVec 32).extractLsb' 23 8).toNat = c.val ∧
    ((IntOp.shli .vector (BitVec.ofNat 32 c.val) 23#32 : BitVec 32).extractLsb' 0 23).toNat = 0 := by decide +kernel

/-- The value of a number with a normal exponent field and an empty fraction. -/
theorem ieee_of {b : BitVec 32} {c : ℕ} (h1 : 1 ≤ c) (h2 : c ≤ 254) (k1 : (b.extractLsb' 31 1 == 1#1) = false)
    (k2 : (b.extractLsb' 23 8).toNat = c) (k3 : (b.extractLsb' 0 23).toNat = 0) :
    Ideal.ieee 8 23 b = (((2 : ℝ) ^ ((c : ℤ) - 127) : ℝ) : EReal) := by
  unfold Ideal.ieee
  simp only [show 8 + 23 = 31 from rfl, k1, k2, k3]
  rw [if_neg (by omega), if_neg (by omega)]
  congr 1
  rw [show ((c : ℤ) - (2 ^ (8 - 1) - 1) - (23 : ℕ)) = ((c : ℤ) - 127) + (-23 : ℤ) by norm_num; ring, zpow_add₀ (by norm_num)]
  norm_num
  rw [mul_comm, mul_assoc]; norm_num

/-- The value of an exponent field between 1 and 254 with an empty fraction. -/
theorem ofBits_field (c : ℕ) (h1 : 1 ≤ c) (h2 : c ≤ 254) :
    Ideal.ofBits .f32 (IntOp.shli .vector (BitVec.ofNat 32 c) 23#32) = (((2 : ℝ) ^ ((c : ℤ) - 127) : ℝ) : EReal) := by
  obtain ⟨k1, k2, k3⟩ := field_bits ⟨c, by omega⟩
  exact ieee_of h1 h2 k1 k2 k3

/-- The exponent field 255 with an empty fraction is infinity. -/
theorem ofBits_inf : Ideal.ofBits .f32 (IntOp.shli .vector (255#32) 23#32) = ⊤ := by
  have k1 : ((IntOp.shli .vector (255#32) 23#32 : BitVec 32).extractLsb' 31 1 == 1#1) = false := by decide +kernel
  have k2 : ((IntOp.shli .vector (255#32) 23#32 : BitVec 32).extractLsb' 23 8).toNat = 255 := by decide +kernel
  have k3 : ((IntOp.shli .vector (255#32) 23#32 : BitVec 32).extractLsb' 0 23).toNat = 0 := by decide +kernel
  unfold Ideal.ofBits Ideal.ieee
  simp only [show 8 + 23 = 31 from rfl, k1, k2, k3]
  norm_num

/-! ## The search -/

/-- The search where the comparisons are known: `q` is at least the power of field `c` exactly for `c ≤ n`. -/
def Below (q : EReal) (n : ℕ) : Prop :=
  n ≤ 254 ∧ ∀ c : ℕ, 1 ≤ c → c ≤ 255 → (Ideal.ofBits .f32 (IntOp.shli .vector (BitVec.ofNat 32 c) 23#32) ≤ q ↔ c ≤ n)

/-- One step of the search keeps what it has found at most `n`, and halves the range in which `n` lies. -/
theorem step_of {q : EReal} {n : ℕ} (h : Below q n) (b bit : ℕ) (hb : b ≤ n) (hn : n < b + 2 * bit) (hbit : 1 ≤ bit) (htop : b + 2 * bit ≤ 256) :
    ∃ b' : ℕ, step q (BitVec.ofNat 32 b) (BitVec.ofNat 32 bit) = BitVec.ofNat 32 b' ∧ b' ≤ n ∧ n < b' + bit ∧ b' + bit ≤ 256 := by
  have e : IntOp.addi (BitVec.ofNat 32 b) (BitVec.ofNat 32 bit) = BitVec.ofNat 32 (b + bit) := BitVec.ofNat_add_ofNat b bit
  have hc := h.2 (b + bit) (by omega) (by omega)
  unfold step
  rw [e]
  have hcmp : FloatOps.cmpf (F := Ideal) (φ := .f32) .oge q (FloatOps.ofBits (F := Ideal) .f32 (IntOp.shli .vector (BitVec.ofNat 32 (b + bit)) 23#32))
      = BitVec.ofBool (decide (Ideal.ofBits .f32 (IntOp.shli .vector (BitVec.ofNat 32 (b + bit)) 23#32) ≤ q)) := rfl
  rw [hcmp]
  by_cases hle : b + bit ≤ n
  · rw [decide_eq_true (hc.mpr hle)]
    exact ⟨b + bit, rfl, hle, by omega, by omega⟩
  · rw [decide_eq_false (fun k => hle (hc.mp k))]
    exact ⟨b, rfl, hb, by omega, by omega⟩

/-- The search finds `n`. -/
theorem search_of {q : EReal} {n : ℕ} (h : Below q n) : search q = BitVec.ofNat 32 n := by
  obtain ⟨b1, e1, l1, u1, t1⟩ := step_of h 0 128 (by omega) (by have := h.1; omega) (by omega) (by omega)
  obtain ⟨b2, e2, l2, u2, t2⟩ := step_of h b1 64 l1 (by omega) (by omega) (by omega)
  obtain ⟨b3, e3, l3, u3, t3⟩ := step_of h b2 32 l2 (by omega) (by omega) (by omega)
  obtain ⟨b4, e4, l4, u4, t4⟩ := step_of h b3 16 l3 (by omega) (by omega) (by omega)
  obtain ⟨b5, e5, l5, u5, t5⟩ := step_of h b4 8 l4 (by omega) (by omega) (by omega)
  obtain ⟨b6, e6, l6, u6, t6⟩ := step_of h b5 4 l5 (by omega) (by omega) (by omega)
  obtain ⟨b7, e7, l7, u7, t7⟩ := step_of h b6 2 l6 (by omega) (by omega) (by omega)
  obtain ⟨b8, e8, l8, u8, t8⟩ := step_of h b7 1 l7 (by omega) (by omega) (by omega)
  unfold search
  rw [e1, e2, e3, e4, e5, e6, e7, e8]
  congr 1
  omega

/-- With the case of a NaN, which no extended real is, the search still finds `n`. -/
theorem biased_of {q : EReal} {n : ℕ} (h : Below q n) : biased q = BitVec.ofNat 32 n := by
  have e : FloatOps.cmpf (F := Ideal) (φ := .f32) .one q q = 0#1 := by
    show BitVec.ofBool (decide (q ≠ q)) = 0#1
    rw [decide_eq_false (by simp)]; rfl
  unfold biased
  rw [e, search_of h]
  rfl

/-- The exponent field of a number: how many of the powers of two from 2 ^ -126 to 2 ^ 127 are not above it. -/
def field (q : EReal) : ℕ := ((Finset.range 254).filter fun i : ℕ => (((2 : ℝ) ^ ((i : ℤ) - 126) : ℝ) : EReal) ≤ q).card

/-- A power of two is at most `q` exactly where it is counted in the field of `q`. -/
theorem field_iff {q : EReal} (c : ℕ) (h2 : c < 254) :
    ((((2 : ℝ) ^ ((c : ℤ) - 126) : ℝ) : EReal) ≤ q ↔ c < field q) := by
  have mono : ∀ i j : ℕ, i ≤ j → (((2 : ℝ) ^ ((i : ℤ) - 126) : ℝ) : EReal) ≤ (((2 : ℝ) ^ ((j : ℤ) - 126) : ℝ) : EReal) := fun i j hij =>
    EReal.coe_le_coe_iff.mpr (zpow_le_zpow_right₀ (by norm_num) (by omega))
  unfold field
  constructor
  · intro h
    have : Finset.range (c + 1) ⊆ (Finset.range 254).filter fun i : ℕ => (((2 : ℝ) ^ ((i : ℤ) - 126) : ℝ) : EReal) ≤ q := fun i hi => by
      rw [Finset.mem_range] at hi
      rw [Finset.mem_filter, Finset.mem_range]
      exact ⟨by omega, (mono i c (by omega)).trans h⟩
    have := Finset.card_le_card this
    rw [Finset.card_range] at this
    omega
  · intro h
    by_contra hq
    have : ((Finset.range 254).filter fun i : ℕ => (((2 : ℝ) ^ ((i : ℤ) - 126) : ℝ) : EReal) ≤ q) ⊆ Finset.range c := fun i hi => by
      rw [Finset.mem_filter] at hi
      rw [Finset.mem_range]
      by_contra hci
      exact hq ((mono c i (by omega)).trans hi.2)
    have := Finset.card_le_card this
    rw [Finset.card_range] at this
    omega

/-- The field is at most 254. -/
theorem field_le (q : EReal) : field q ≤ 254 := by
  have := Finset.card_filter_le (Finset.range 254) fun i : ℕ => (((2 : ℝ) ^ ((i : ℤ) - 126) : ℝ) : EReal) ≤ q
  rw [Finset.card_range] at this
  exact this

/-- The field of `q`, for `q` below infinity, is what the search looks for. -/
theorem below_field {q : EReal} (hq : q < ⊤) : Below q (field q) := by
  refine ⟨field_le q, fun c h1 h2 => ?_⟩
  by_cases h : c = 255
  · subst h
    rw [ofBits_inf]
    have := field_le q
    constructor
    · intro k; exact absurd (lt_of_lt_of_le hq k) (lt_irrefl _)
    · intro k; omega
  · rw [ofBits_field c h1 (by omega), show (c : ℤ) - 127 = ((c - 1 : ℕ) : ℤ) - 126 by omega, field_iff (c - 1) (by omega)]
    omega

/-- The exponent of a number: one more than its field's power, and 0 where the field is empty. -/
def expo (q : EReal) : BitVec 32 := if field q = 0 then 0#32 else BitVec.ofNat 32 (field q) - 126#32

/-- The kernel's exponent of a number below infinity is its exponent. -/
theorem expK_eq {q : EReal} (hq : q < ⊤) : expK q = expo q := by
  unfold expK expo
  rw [biased_of (below_field hq)]
  have hl := field_le q
  by_cases h : field q = 0
  · rw [h, if_pos rfl]; rfl
  · rw [if_neg h]
    have e : IntOp.cmpi .eq (BitVec.ofNat 32 (field q)) 0#32 = 0#1 := by
      show BitVec.ofBool (BitVec.ofNat 32 (field q) == 0#32) = 0#1
      have : (BitVec.ofNat 32 (field q) == 0#32) = false := by
        rw [beq_eq_false_iff_ne]
        intro k
        have := congrArg BitVec.toNat k
        simp only [BitVec.toNat_ofNat] at this
        omega
      rw [this]; rfl
    rw [e]; rfl

/-! ## The reference's exponent and scale -/

/-- The number of powers of two that are not above `q`, as the reference counts them. -/
def count (q : EReal) : BitVec 32 :=
  Finset.univ.fold IntOp.addi 0#32 fun k : Fin 254 =>
    BitVec.setWidth 32 (Ideal.cmp .oge q (Ideal.pow (Ideal.ofBits .f32 0x40000000#32) (((IntOp.addi 4294967170#32 (BitVec.ofNat 32 k.val)).toInt : ℝ) : EReal)))

/-- The bits of 2. -/
theorem two : Ideal.ofBits .f32 0x40000000#32 = ((2 : ℝ) : EReal) := by
  have := ofBits_field 128 (by norm_num) (by norm_num)
  have e : IntOp.shli .vector (BitVec.ofNat 32 128) 23#32 = 0x40000000#32 := by decide +kernel
  rw [e] at this
  rw [this]; norm_num

/-- A power of 2 with an integer exponent is the power in the reals. -/
theorem pow_two (z : ℤ) : Ideal.pow (Ideal.ofBits .f32 0x40000000#32) ((z : ℝ) : EReal) = (((2 : ℝ) ^ z : ℝ) : EReal) := by
  rw [two, Ideal.pow_coe_coe]
  congr 1
  exact Real.rpow_intCast 2 z

/-- The reference's count of powers of two is the field. -/
theorem count_eq (q : EReal) : count q = BitVec.ofNat 32 (field q) := by
  unfold count
  rw [IndicatorCount.fold_addi_setWidth_eq_card]
  congr 1
  unfold field
  have key : ∀ k : Fin 254, (IntOp.addi 4294967170#32 (BitVec.ofNat 32 k.val)).toInt = (k.val : ℤ) - 126 := by decide +kernel
  have hcmp : ∀ p : EReal, Ideal.cmp .oge q p = 1#1 ↔ p ≤ q := fun p => by
    show BitVec.ofBool (decide (p ≤ q)) = 1#1 ↔ _
    by_cases h : p ≤ q
    · rw [decide_eq_true h]; exact ⟨fun _ => h, fun _ => rfl⟩
    · rw [decide_eq_false h]; exact ⟨fun k => absurd k (by decide), fun k => absurd k h⟩
  simp only [key, pow_two, hcmp]
  rw [← Finset.card_map Fin.valEmbedding]
  congr 1
  ext i
  simp only [Finset.mem_map, Finset.mem_filter, Finset.mem_univ, true_and, Fin.valEmbedding_apply, Finset.mem_range]
  constructor
  · rintro ⟨k, hk, rfl⟩
    exact ⟨k.isLt, hk⟩
  · rintro ⟨hi, hq⟩
    exact ⟨⟨i, hi⟩, hq, rfl⟩

/-- The reference's exponent of a block of greatest magnitude `a`, with `q` its argument. -/
def expRef (a q : EReal) : BitVec 32 :=
  Scalar.select (Ideal.cmp .oeq a 0) 0#32
    (Scalar.select (Ideal.cmp .olt q (Ideal.ofBits .f32 0x00800000#32)) 0#32 (IntOp.subi (count q) 126#32))

/-- The reference's scale of an exponent. -/
def scaleRef (e : BitVec 32) : EReal :=
  Scalar.select (IntOp.cmpi .slt (-e) 4294967170#32) 0
    (Ideal.pow (Ideal.ofBits .f32 0x40000000#32) (((-e).toInt : ℝ) : EReal))

/-- The bits of the least normal number, 2 ^ -126. -/
theorem least : Ideal.ofBits .f32 0x00800000#32 = (((2 : ℝ) ^ (((0 : ℕ) : ℤ) - 126) : ℝ) : EReal) := by
  have := ofBits_field 1 (by norm_num) (by norm_num)
  have e : IntOp.shli .vector (BitVec.ofNat 32 1) 23#32 = 0x00800000#32 := by decide +kernel
  rw [e] at this
  rw [this]; norm_num

/-- The field is 0 exactly below the least normal number. -/
theorem field_zero_iff (q : EReal) : field q = 0 ↔ q < Ideal.ofBits .f32 0x00800000#32 := by
  rw [least, ← not_le, field_iff 0 (by norm_num)]
  omega

/-- The reference's exponent is the exponent. -/
theorem expRef_eq {a q : EReal} (h0 : a = 0 → q = 0) : expRef a q = expo q := by
  unfold expRef expo Ideal.cmp
  simp only [count_eq]
  by_cases h : field q = 0
  · rw [if_pos h, decide_eq_true ((field_zero_iff q).mp h)]
    by_cases ha : a = 0
    · rw [decide_eq_true ha]; rfl
    · rw [decide_eq_false ha]; rfl
  · rw [if_neg h, decide_eq_false (fun k => h ((field_zero_iff q).mpr k))]
    have ha : ¬a = 0 := fun k => h (by
      rw [field_zero_iff, h0 k, least]
      exact EReal.coe_pos.mpr (by positivity))
    rw [decide_eq_false ha]; rfl

/-- The two scales are one, for a number below `2 ^ 126`. -/
theorem scale_eq {q : EReal} (hq : q < (((2 : ℝ) ^ (126 : ℤ) : ℝ) : EReal)) : scaleK (expo q) = scaleRef (expo q) := by
  have hf : field q ≤ 252 := by
    by_contra hc
    have := (field_iff (q := q) 252 (by norm_num)).mpr (by omega)
    rw [show ((252 : ℕ) : ℤ) - 126 = 126 by norm_num] at this
    exact absurd (lt_of_lt_of_le hq this) (lt_irrefl _)
  have hz : scaleK 0#32 = scaleRef 0#32 := by
    unfold scaleK scaleRef
    have e : IntOp.subi 127#32 0#32 = BitVec.ofNat 32 127 := by decide
    have e2 : IntOp.cmpi .slt (-(0#32)) 4294967170#32 = 0#1 := by decide
    have e3 : (-(0#32)).toInt = 0 := by decide
    rw [e, e2, e3, pow_two]
    exact (ofBits_field 127 (by norm_num) (by norm_num)).trans (by norm_num; rfl)
  unfold expo
  by_cases h : field q = 0
  · rw [if_pos h, hz]
  · rw [if_neg h]
    generalize field q = n at hf h
    have key : ∀ n : Fin 253, 1 ≤ n.val → IntOp.subi 127#32 (BitVec.ofNat 32 n.val - 126#32) = BitVec.ofNat 32 (253 - n.val)
        ∧ IntOp.cmpi .slt (-(BitVec.ofNat 32 n.val - 126#32)) 4294967170#32 = 0#1
        ∧ (-(BitVec.ofNat 32 n.val - 126#32)).toInt = 126 - (n.val : ℤ) := by decide +kernel
    obtain ⟨k1, k2, k3⟩ := key ⟨n, by omega⟩ (by show 1 ≤ n; omega)
    simp only at k1 k2 k3
    unfold scaleK scaleRef
    rw [k1, k2, k3, pow_two]
    refine (ofBits_field (253 - n) (by omega) (by omega)).trans ?_
    rw [show ((253 - n : ℕ) : ℤ) - 127 = 126 - (n : ℤ) by omega]
    rfl

end Cert.Mx

end
-- ==== Proof.Whole.lean ====
/- The results as functions of the gradient over the flattened rows: codes and scale codes of the rows' blocks and of the
   columns' blocks, in the spelling of the kernel (exponent searched, scale from its bits) and of the reference (exponent
   counted, scale a power), and dgamma as one sum over the rows. -/
module

public import proofs.«01_k».proof.Proof.Quant

@[expose] public section

noncomputable section

namespace Cert.Mx

open Idealize.ShloMosaic

variable (D : Fin 1792 → Fin 12288 → EReal)

/-- The 32 columns `32 k …` of row `R`. -/
def rowBlock (R : Fin 1792) (k : Fin 384) : Fin 32 → EReal := fun t => D R ⟨32 * k.val + t.val, by omega⟩
/-- The 32 rows `32 k …` of column `L`. -/
def colBlock (L : Fin 12288) (k : Fin 56) : Fin 32 → EReal := fun t => D ⟨32 * k.val + t.val, by omega⟩ L

/-- A block's exponent as the kernel computes it. -/
def expB (f : Fin 32 → EReal) : BitVec 32 := expK (arg f)
/-- A block's exponent as the reference computes it. -/
def expH (f : Fin 32 → EReal) : BitVec 32 := expRef (amax fun t => mag (f t)) (arg f)

/-- The kernel's row codes. -/
def crK (R : Fin 1792) (L : Fin 12288) : EReal := code (D R L) (scaleK (expB (rowBlock D R ⟨L.val / 32, by omega⟩)))
/-- The kernel's row scale codes. -/
def srK (R : Fin 1792) (k : Fin 384) : BitVec 8 := word (expB (rowBlock D R k))
/-- The kernel's column codes. -/
def ccK (L : Fin 12288) (R : Fin 1792) : EReal := code (D R L) (scaleK (expB (colBlock D L ⟨R.val / 32, by omega⟩)))
/-- The kernel's column scale codes. -/
def scK (L : Fin 12288) (k : Fin 56) : BitVec 8 := word (expB (colBlock D L k))

/-- The reference's row codes. -/
def crH (R : Fin 1792) (L : Fin 12288) : EReal := code (D R L) (scaleRef (expH (rowBlock D R ⟨L.val / 32, by omega⟩)))
/-- The reference's row scale codes. -/
def srH (R : Fin 1792) (k : Fin 384) : BitVec 8 := word (expH (rowBlock D R k))
/-- The reference's column codes. -/
def ccH (L : Fin 12288) (R : Fin 1792) : EReal := code (D R L) (scaleRef (expH (colBlock D L ⟨R.val / 32, by omega⟩)))
/-- The reference's column scale codes. -/
def scH (L : Fin 12288) (k : Fin 56) : BitVec 8 := word (expH (colBlock D L k))

section Rows
variable (x dy : Fin 2 → Fin 896 → Fin 12288 → EReal) (g : Fin 12288 → EReal) (r : Fin 2 → Fin 896 → EReal)

/-- The outer and inner place of a flattened row. -/
def rowOut (R : Fin 1792) : Fin 2 := ⟨R.val / 896, by omega⟩
/-- The second coordinate of a flattened row. -/
def rowIn (R : Fin 1792) : Fin 896 := ⟨R.val % 896, by omega⟩

/-- The gradient at a flattened row. -/
def gdx (R : Fin 1792) (L : Fin 12288) : EReal :=
  rowDx (x (rowOut R) (rowIn R)) (dy (rowOut R) (rowIn R)) g (r (rowOut R) (rowIn R)) L

/-- A row's term of dgamma. -/
def dgTerm (L : Fin 12288) (b : Fin 2) (s : Fin 896) : EReal := dy b s L * (x b s L * r b s)

/-- dgamma over the flattened rows. -/
def dgSum (L : Fin 12288) : EReal := ∑ R : Fin 1792, dgTerm x dy r L (rowOut R) (rowIn R)

/-- The flattened rows are the pairs of an outer and an inner place, -/
def rowEquiv : Fin 2 × Fin 896 ≃ Fin 1792 where
  toFun p := ⟨896 * p.1.val + p.2.val, by omega⟩
  invFun R := (rowOut R, rowIn R)
  left_inv p := by
    refine Prod.ext (Fin.ext ?_) (Fin.ext ?_)
    · show (896 * p.1.val + p.2.val) / 896 = p.1.val; omega
    · show (896 * p.1.val + p.2.val) % 896 = p.2.val; omega
  right_inv R := Fin.ext (by show 896 * (R.val / 896) + R.val % 896 = R.val; omega)

/-- so dgamma is also the double sum. -/
theorem dgSum_eq (L : Fin 12288) : dgSum x dy r L = ∑ b : Fin 2, ∑ s : Fin 896, dgTerm x dy r L b s := by
  unfold dgSum
  rw [← Equiv.sum_comp rowEquiv, Fintype.sum_prod_type]
  refine Finset.sum_congr rfl fun b _ => Finset.sum_congr rfl fun s _ => ?_
  have h := rowEquiv.left_inv (b, s)
  have h1 : rowOut (rowEquiv (b, s)) = b := congrArg Prod.fst h
  have h2 : rowIn (rowEquiv (b, s)) = s := congrArg Prod.snd h
  rw [h1, h2]

/-- The flattened rows in the order the kernel adds them: sublane, point, place in the point's rows. -/
def tileEquiv : Fin 8 × Fin 14 × Fin 16 ≃ Fin 1792 where
  toFun p := ⟨128 * p.2.1.val + (8 * p.2.2.val + p.1.val), by omega⟩
  invFun R := (⟨R.val % 8, by omega⟩, ⟨R.val / 128, by omega⟩, ⟨R.val % 128 / 8, by omega⟩)
  left_inv p := by
    obtain ⟨s, i, u⟩ := p
    refine Prod.ext (Fin.ext ?_) (Prod.ext (Fin.ext ?_) (Fin.ext ?_))
    · show (128 * i.val + (8 * u.val + s.val)) % 8 = s.val; omega
    · show (128 * i.val + (8 * u.val + s.val)) / 128 = i.val; omega
    · show (128 * i.val + (8 * u.val + s.val)) % 128 / 8 = u.val; omega
  right_inv R := Fin.ext (by show 128 * (R.val / 128) + (8 * (R.val % 128 / 8) + R.val % 8) = R.val; omega)

/-- A sum over the rows, taken by sublane, then point, then group of eight rows. -/
theorem sum_tile (f : Fin 1792 → EReal) :
    ∑ R, f R = ∑ s : Fin 8, ∑ i : Fin 14, ∑ u : Fin 16, f ⟨128 * i.val + (8 * u.val + s.val), by omega⟩ := by
  rw [← Equiv.sum_comp tileEquiv f, Fintype.sum_prod_type]
  refine Finset.sum_congr rfl fun s _ => ?_
  rw [Fintype.sum_prod_type]
  rfl

end Rows

end Cert.Mx

end
-- ==== Proof.KernelArrays.lean ====
/- The arrays the idealized kernel leaves: each result over the whole array, as a function of the gradient of the arguments. -/
module

public import proofs.«01_k».proof.Proof.KernelBlock
public import proofs.«01_k».proof.Proof.Whole
public import proofs.«01_k».proof.Proof.KernelIdealRun
public import Idealize.ShloMosaic.Lib.Claim
public import Idealize.ShloMosaic.Lib.Pipeline.ValueKit.Point
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal.Gen Cert.Mx
variable (m : (ℓ : Loc nD τ sig) → Buf (Elt Ideal) ℓ)

/-- The blocks' places. -/
theorem index0 : ∀ t : Fin cfg0.N, win0_0.index t 0 = t.val ∧ win0_0.index t 1 = 0 := by decide +kernel
/-- The block of dy at point `t` is the `t`-th along the rows. -/
theorem index1 : ∀ t : Fin cfg0.N, win0_1.index t 0 = t.val ∧ win0_1.index t 1 = 0 := by decide +kernel
/-- The block of gamma is the whole array at every point. -/
theorem index2 : ∀ t : Fin cfg0.N, win0_2.index t 0 = 0 ∧ win0_2.index t 1 = 0 := by decide +kernel
/-- The block of rstd at point `t` is the `t`-th. -/
theorem index3 : ∀ t : Fin cfg0.N, win0_3.index t 0 = t.val ∧ win0_3.index t 1 = 0 ∧ win0_3.index t 2 = 0 := by decide +kernel

/-- The array's row that a point's row is. -/
def rowAt (t : Fin cfg0.N) (a : Fin 128) : Fin 1792 := ⟨128 * t.val + a.val, by have := Nat.lt_of_lt_of_eq t.isLt N_0; omega⟩

/-- A point's operands are the arguments' rows. -/
theorem iblk0_at (c : Dev nD) (t : Fin cfg0.N) (a : Fin 128) (L : Fin 12288) :
    iblk m c 0 t (ix2 a L) = m ((c : Thread nD τ).loc main_arg0) (ix3 (rowOut (rowAt t a)) (rowIn (rowAt t a)) L) := by
  have hi := index0 t
  unfold iblk rowOut rowIn rowAt
  blk_ext!
  all_goals omega

/-- A point's block of dy, at an element: dy at the flattened row and the column. -/
theorem iblk1_at (c : Dev nD) (t : Fin cfg0.N) (a : Fin 128) (L : Fin 12288) :
    iblk m c 1 t (ix2 a L) = m ((c : Thread nD τ).loc main_arg1) (ix3 (rowOut (rowAt t a)) (rowIn (rowAt t a)) L) := by
  have hi := index1 t
  unfold iblk rowOut rowIn rowAt
  blk_ext!
  all_goals omega

/-- A point's block of gamma, at an element: gamma at the column. -/
theorem iblk2_at (c : Dev nD) (t : Fin cfg0.N) (L : Fin 12288) :
    iblk m c 2 t (ix2 0 L) = m ((c : Thread nD τ).loc main_arg2) (ix1 L) := by
  have hi := index2 t
  unfold iblk
  blk_ext!
  all_goals omega

/-- A point's block of rstd, at an element: rstd at the flattened row. -/
theorem iblk3_at (c : Dev nD) (t : Fin cfg0.N) (a : Fin 128) :
    iblk m c 3 t (ix3 0 0 a) = m ((c : Thread nD τ).loc main_arg3) (ix2 (rowOut (rowAt t a)) (rowIn (rowAt t a))) := by
  have hi := index3 t
  unfold iblk rowOut rowIn rowAt
  blk_ext!
  all_goals omega

/-- The gradient over the flattened rows, of a memory's arguments. -/
def dxK (c : Dev nD) : Fin 1792 → Fin 12288 → EReal :=
  gdx (fun b s L => m ((c : Thread nD τ).loc main_arg0) (ix3 b s L)) (fun b s L => m ((c : Thread nD τ).loc main_arg1) (ix3 b s L))
    (fun L => m ((c : Thread nD τ).loc main_arg2) (ix1 L)) (fun b s => m ((c : Thread nD τ).loc main_arg3) (ix2 b s))

/-- dgamma of a memory's arguments. -/
def dgK (c : Dev nD) : Fin 12288 → EReal :=
  dgSum (fun b s L => m ((c : Thread nD τ).loc main_arg0) (ix3 b s L)) (fun b s L => m ((c : Thread nD τ).loc main_arg1) (ix3 b s L))
    (fun b s => m ((c : Thread nD τ).loc main_arg3) (ix2 b s))

variable (c : Dev nD) (t : Fin cfg0.N)

/-- A point's rows of the gradient are the array's. -/
theorem bdx_iblk (a : Fin 128) (L : Fin 12288) :
    bdx (iblk m c 0 t) (iblk m c 1 t) (iblk m c 2 t) (iblk m c 3 t) a L = dxK m c (rowAt t a) L := by
  unfold bdx dxK gdx
  have h0 : (fun L => iblk m c 0 t (ix2 a L)) = _ := funext (iblk0_at m c t a)
  have h1 : (fun L => iblk m c 1 t (ix2 a L)) = _ := funext (iblk1_at m c t a)
  have h2 : (fun L => iblk m c 2 t (ix2 0 L)) = _ := funext (iblk2_at m c t)
  rw [h0, h1, h2, iblk3_at]

/-- So are the arguments of its exponents. -/
theorem argR_iblk (a : Fin 128) (k : Fin 384) :
    argR (iblk m c 0 t) (iblk m c 1 t) (iblk m c 2 t) (iblk m c 3 t) a k = arg (rowBlock (dxK m c) (rowAt t a) k) :=
  congrArg arg (funext fun u => bdx_iblk m c t a _)

/-- The argument of a column block's exponent at a point is that of the whole gradient's column block. -/
theorem argC_iblk (q : Fin 4) (L : Fin 12288) (k : Fin 56) (hk : k.val = 4 * t.val + q.val) :
    argC (iblk m c 0 t) (iblk m c 1 t) (iblk m c 2 t) (iblk m c 3 t) q L = arg (colBlock (dxK m c) L k) :=
  congrArg arg (funext fun u => (bdx_iblk m c t _ L).trans
    (congrArg (fun R => dxK m c R L) (Fin.ext (by show 128 * t.val + (32 * q.val + u.val) = 32 * k.val + u.val; omega))))

/-- An index into a matrix is the pair of its coordinates. -/
theorem eta2 {n k : ℕ} (y : (⟨2, ![n, k]⟩ : Shape).Idx) : y = ix2 (y 0) (y 1) :=
  funext fun a => match a with | ⟨0, _⟩ => rfl | ⟨1, _⟩ => rfl

/-- The block of dgamma is the whole array at every point. -/
theorem index4 : ∀ t : Fin cfg0.N, win0_4.index t 0 = 0 ∧ win0_4.index t 1 = 0 := by decide +kernel
/-- The block of row codes at point `t` is the `t`-th along the rows. -/
theorem index5 : ∀ t : Fin cfg0.N, win0_5.index t 0 = t.val ∧ win0_5.index t 1 = 0 := by decide +kernel
/-- The block of row scale codes at point `t` is the `t`-th along the rows. -/
theorem index6 : ∀ t : Fin cfg0.N, win0_6.index t 0 = t.val ∧ win0_6.index t 1 = 0 := by decide +kernel
/-- The block of column codes at point `t` is the `t`-th along the second axis. -/
theorem index7 : ∀ t : Fin cfg0.N, win0_7.index t 0 = 0 ∧ win0_7.index t 1 = t.val := by decide +kernel
/-- The block of column scale codes is the whole array at every point. -/
theorem index8 : ∀ t : Fin cfg0.N, win0_8.index t 0 = 0 ∧ win0_8.index t 1 = 0 := by decide +kernel

/-- Where a block's element lies in its array. -/
theorem place5 (y : S128x12288.Idx) : ((win0_5.blk t).view.emb y 0 : Fin 1792) = rowAt t (y 0) ∧ ((win0_5.blk t).view.emb y 1 : Fin 12288) = y 1 := by
  have hi := index5 t
  refine ⟨Fin.ext ?_, Fin.ext ?_⟩
  · show win0_5.index t 0 * 128 + 1 * (y 0).val = 128 * t.val + (y 0).val; omega
  · show win0_5.index t 1 * 12288 + 1 * (y 1).val = (y 1).val; omega

/-- Where an element of a point's block of row scale codes lies in the array. -/
theorem place6 (y : S128x384.Idx) : ((win0_6.blk t).view.emb y 0 : Fin 1792) = rowAt t (y 0) ∧ ((win0_6.blk t).view.emb y 1 : Fin 384) = y 1 := by
  have hi := index6 t
  refine ⟨Fin.ext ?_, Fin.ext ?_⟩
  · show win0_6.index t 0 * 128 + 1 * (y 0).val = 128 * t.val + (y 0).val; omega
  · show win0_6.index t 1 * 384 + 1 * (y 1).val = (y 1).val; omega

/-- Where an element of a point's block of column codes lies in the array. -/
theorem place7 (y : S12288x128.Idx) : ((win0_7.blk t).view.emb y 0 : Fin 12288) = y 0 ∧ ((win0_7.blk t).view.emb y 1 : Fin 1792) = rowAt t (y 1) := by
  have hi := index7 t
  refine ⟨Fin.ext ?_, Fin.ext ?_⟩
  · show win0_7.index t 0 * 12288 + 1 * (y 0).val = (y 0).val; omega
  · show win0_7.index t 1 * 128 + 1 * (y 1).val = 128 * t.val + (y 1).val; omega

/-- An element of the block of column scale codes lies at the same place in the array. -/
theorem place8 (y : S12288x56.Idx) : ((win0_8.blk t).view.emb y 0 : Fin 12288) = y 0 ∧ ((win0_8.blk t).view.emb y 1 : Fin 56) = y 1 := by
  have hi := index8 t
  refine ⟨Fin.ext ?_, Fin.ext ?_⟩
  · show win0_8.index t 0 * 12288 + 1 * (y 0).val = (y 0).val; omega
  · show win0_8.index t 1 * 56 + 1 * (y 1).val = (y 1).val; omega

/-- An element of the block of dgamma lies in the same column of the array. -/
theorem place4 (y : S1x12288.Idx) : ((win0_4.blk t).view.emb y 1 : Fin 12288) = y 1 := by
  have hi := index4 t
  refine Fin.ext ?_
  show win0_4.index t 1 * 12288 + 1 * (y 1).val = (y 1).val; omega

/-! ## What a point leaves, at an element of its block -/

/-- The row codes that a point leaves are those of the whole gradient at its rows. -/
theorem cr_pt (a : Fin 128) (L : Fin 12288) :
    crB (iblk m c 0 t) (iblk m c 1 t) (iblk m c 2 t) (iblk m c 3 t) (ix2 a L) = crK (dxK m c) (rowAt t a) L := by
  rw [crB_at, bdx_iblk, argR_iblk]
  rfl

/-- The row scale codes that a point leaves are those of the whole gradient at its rows. -/
theorem sr_pt (a : Fin 128) (k : Fin 384) :
    srB (iblk m c 0 t) (iblk m c 1 t) (iblk m c 2 t) (iblk m c 3 t) (ix2 a k) = srK (dxK m c) (rowAt t a) k := by
  rw [srB_at, argR_iblk]
  rfl

/-- The column codes that a point leaves are those of the whole gradient at its rows. -/
theorem cc_pt (L : Fin 12288) (a : Fin 128) :
    ccB (iblk m c 0 t) (iblk m c 1 t) (iblk m c 2 t) (iblk m c 3 t) (ix2 L a) = ccK (dxK m c) L (rowAt t a) := by
  rw [ccB_at, bdx_iblk, argC_iblk m c t ⟨a.val / 32, by omega⟩ L ⟨(rowAt t a).val / 32, by omega⟩
    (by show (128 * t.val + a.val) / 32 = 4 * t.val + a.val / 32; omega)]
  rfl

/-- The column scale codes that the last point stores are those of the whole gradient. -/
theorem sc_pt (L : Fin 12288) (k : Fin 56) : scB (ecAll m c) (ix2 L k) = scK (dxK m c) L k := by
  have h14 : k.val / 4 < 14 := by omega
  show k0_pay3 (slice3 (ecAll m c) (jOf L)) (ix2 (lOf L) k) = _
  rw [pay3_at]
  refine Eq.trans (b := (ecNext (iblk m c 0 (pt (k.val / 4) h14)) (iblk m c 1 (pt (k.val / 4) h14)) (iblk m c 2 (pt (k.val / 4) h14))
    (iblk m c 3 (pt (k.val / 4) h14)) ⟨k.val / 4, h14⟩ (fun _ => 0#32) (ix3 ⟨k.val / 4, h14⟩ ⟨k.val % 4, by omega⟩ (col (jOf L) (lOf L)))).setWidth 8) rfl ?_
  rw [col_jl, ecNext_at, argC_iblk m c (pt (k.val / 4) h14) ⟨k.val % 4, by omega⟩ L k
    (by show k.val = 4 * (k.val / 4) + k.val % 4; omega)]
  rfl

/-! ## The arrays after the run -/

/-- The row codes. -/
theorem arr5 : (dats m 0 c).arrAt 5 cfg0.N = fun y : S1792x12288.Idx => crK (dxK m c) (y 0) (y 1) := by
  refine (dats m 0 c).arrAt_eq_of_covers 5 (fun y : S1792x12288.Idx => crK (dxK m c) (y 0) (y 1)) (by decide +kernel) fun t hf y => ?_
  blk_simp
  rw [after0_5]
  revert y; intro (y : S128x12288.Idx)
  have hp := place5 t y
  refine (congrArg (crB (iblk m c 0 t) (iblk m c 1 t) (iblk m c 2 t) (iblk m c 3 t)) (eta2 y)).trans ?_
  exact (cr_pt m c t (y 0) (y 1)).trans (congrArg₂ (crK (dxK m c)) hp.1 hp.2).symm

/-- The row scale codes. -/
theorem arr6 : (dats m 0 c).arrAt 6 cfg0.N = fun y : S1792x384.Idx => srK (dxK m c) (y 0) (y 1) := by
  refine (dats m 0 c).arrAt_eq_of_covers 6 (fun y : S1792x384.Idx => srK (dxK m c) (y 0) (y 1)) (by decide +kernel) fun t hf y => ?_
  blk_simp
  rw [after0_6]
  revert y; intro (y : S128x384.Idx)
  have hp := place6 t y
  refine (congrArg (srB (iblk m c 0 t) (iblk m c 1 t) (iblk m c 2 t) (iblk m c 3 t)) (eta2 y)).trans ?_
  exact (sr_pt m c t (y 0) (y 1)).trans (congrArg₂ (srK (dxK m c)) hp.1 hp.2).symm

/-- The column codes. -/
theorem arr7 : (dats m 0 c).arrAt 7 cfg0.N = fun y : S12288x1792.Idx => ccK (dxK m c) (y 0) (y 1) := by
  refine (dats m 0 c).arrAt_eq_of_covers 7 (fun y : S12288x1792.Idx => ccK (dxK m c) (y 0) (y 1)) (by decide +kernel) fun t hf y => ?_
  blk_simp
  rw [after0_7]
  revert y; intro (y : S12288x128.Idx)
  have hp := place7 t y
  refine (congrArg (ccB (iblk m c 0 t) (iblk m c 1 t) (iblk m c 2 t) (iblk m c 3 t)) (eta2 y)).trans ?_
  exact (cc_pt m c t (y 0) (y 1)).trans (congrArg₂ (ccK (dxK m c)) hp.1 hp.2).symm

/-- The column scale codes. -/
theorem arr8 : (dats m 0 c).arrAt 8 cfg0.N = fun y : S12288x56.Idx => scK (dxK m c) (y 0) (y 1) := by
  refine (dats m 0 c).arrAt_eq_of_covers 8 (fun y : S12288x56.Idx => scK (dxK m c) (y 0) (y 1)) (by decide +kernel) fun t hf y => ?_
  blk_simp
  rw [after0_8]
  revert y; intro (y : S12288x56.Idx)
  have hp := place8 t y
  refine (congrArg (scB (ecAll m c)) (eta2 y)).trans ?_
  exact (sc_pt m c (y 0) (y 1)).trans (congrArg₂ (scK (dxK m c)) hp.1 hp.2).symm

/-- The terms of dgamma after the first points. -/
theorem dgaAt_at (n : ℕ) (hn : n ≤ 14) (s : Fin 8) (L : Fin 12288) : dgaAt m c n (ix2 s L)
    = ∑ i ∈ Finset.range n, if h : i < 14 then ∑ u : Fin 16, (fun R => dgTerm (fun b s L => m ((c : Thread nD τ).loc main_arg0) (ix3 b s L))
        (fun b s L => m ((c : Thread nD τ).loc main_arg1) (ix3 b s L)) (fun b s => m ((c : Thread nD τ).loc main_arg3) (ix2 b s)) L (rowOut R) (rowIn R))
          (⟨128 * i + (8 * u.val + s.val), by omega⟩ : Fin 1792) else 0 := by
  induction n with
  | zero => exact pay24_at s L
  | succ n ih =>
    have h : n < 14 := hn
    rw [Finset.sum_range_succ, ← ih (Nat.le_of_lt h), dif_pos h]
    refine (congrFun (dgaAt_succ m c (pt n h)) (ix2 s L)).trans ?_
    refine (dgaNext_at _ _ _ _ s L).trans ?_
    refine congrArg (dgaAt m c n (ix2 s L) + ·) (Finset.sum_congr rfl fun u _ => ?_)
    rw [iblk0_at, iblk1_at, iblk3_at]
    rfl

/-- The sum of the eight partial rows after all points is dgamma. -/
theorem dg_pt (L : Fin 12288) : k0_pay2 (dgaAt m c 14) (ix2 0 L) = dgK m c L := by
  rw [pay2_at]
  unfold dgK dgSum
  rw [sum_tile]
  refine Finset.sum_congr rfl fun s _ => ?_
  rw [dgaAt_at m c 14 le_rfl, Finset.sum_range]
  refine Finset.sum_congr rfl fun i _ => ?_
  rw [dif_pos i.isLt]

/-- dgamma. -/
theorem arr4 : (dats m 0 c).arrAt 4 cfg0.N = fun y : S1x12288.Idx => dgK m c (y 1) := by
  refine (dats m 0 c).arrAt_eq_of_covers 4 (fun y : S1x12288.Idx => dgK m c (y 1)) (by decide +kernel) fun t hf y => ?_
  blk_simp
  rw [after0_4]
  revert y; intro (y : S1x12288.Idx)
  have hp := place4 t y
  have h13 : t.val + 1 = 14 := (by decide +kernel : ∀ t : Fin cfg0.N, (cfg0.win 4).flush t = true → t.val + 1 = 14) t hf
  have hy : y = ix2 (0 : Fin 1) (y 1) := (eta2 y).trans (congrArg (fun a : Fin 1 => ix2 a (y 1)) (Subsingleton.elim (α := Fin 1) _ _))
  rw [h13]
  refine (congrArg (k0_pay2 (dgaAt m c 14)) hy).trans ?_
  exact (dg_pt m c (y 1)).trans (congrArg (dgK m c) hp).symm

end Cert.KernelIdeal.Hand

end
-- ==== Proof.RefTerms.lean ====
/- The reference's host values as terms over its arguments, in the order its program computes them. -/
module

public import proofs.«01_k».proof.Proof.Gen.ReferenceIdeal.Value
public import Idealize.ShloMosaic.Lib.Pointwise
public import Idealize.ShloMosaic.Lib.StableHlo.ReadAt

@[expose] public section

set_option maxRecDepth 16384

noncomputable section

namespace Cert.ReferenceIdeal.Hand

open Idealize.ShloMosaic Idealize.ShloMosaic.TcCoe Idealize.ShloMosaic.Tactic
open Cert.ReferenceIdeal.Gen

section Terms
variable (x dy : FVec Ideal S2x896x12288 .bf16) (g : FVec Ideal S12288 .f32) (r : FVec Ideal S2x896 .f32)

/-- rstd at every element, -/
def rT : FVec Ideal S2x896x12288 .f32 :=
  broadcastInDim S2x896x12288 ![0, 1, 2] bcast_S2x896x1_S2x896x12288_0_1_2 (broadcastInDim S2x896x1 ![0, 1] bcast_S2x896_S2x896x1_0_1 r)
/-- the normalised input, -/
def xhT : FVec Ideal S2x896x12288 .f32 := mulf (extf .f32 x bitsLt_bf16_f32) (rT r)
/-- the gradient times gamma, -/
def gT : FVec Ideal S2x896x12288 .f32 :=
  mulf (extf .f32 dy bitsLt_bf16_f32) (broadcastInDim S2x896x12288 ![0, 1, 2] bcast_S1x1x12288_S2x896x12288_0_1_2 (broadcastInDim S1x1x12288 ![2] bcast_S12288_S1x1x12288_2 g))
/-- the mean of a row's products, -/
def meanT : FVec Ideal S2x896x1 .f32 :=
  Host.divf (broadcastInDim S2x896x1 ![0, 1] bcast_S2x896_S2x896x1_0_1 (Host.reduceAdd (mulf (gT dy g) (xhT x r)) (constant S_ .f32 0x00000000#32) reducesTo_S2x896x12288_S2x896_d2 h_S_))
    (broadcastInDim S2x896x1 ![] bcast_S_S2x896x1 (constant S_ .f32 0x46400000#32))
/-- dx, -/
def dxT : FVec Ideal S2x896x12288 .f32 :=
  mulf (rT r) (subf (gT dy g) (mulf (xhT x r) (broadcastInDim S2x896x12288 ![0, 1, 2] bcast_S2x896x1_S2x896x12288_0_1_2 (meanT x dy g r))))
/-- and dgamma. -/
def dgT : FVec Ideal S1x12288 .f32 :=
  shapeCast S1x12288 (Host.reduceAdd (mulf (extf .f32 dy bitsLt_bf16_f32) (xhT x r)) (constant S_ .f32 0x00000000#32) reducesTo_S2x896x12288_S12288_d0_1 h_S_) shapeCasts_S12288_S1x12288
end Terms

/-- The powers of two that the exponent is counted over. -/
def powers : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- The rows' blocks of 32, -/
def rBlk (X : FVec Ideal S2x896x12288 .f32) : FVec Ideal S2x896x384x32 .f32 := shapeCast S2x896x384x32 X shapeCasts_S2x896x12288_S2x896x384x32
/-- their greatest magnitudes, -/
def rMax (X : FVec Ideal S2x896x12288 .f32) : FVec Ideal S2x896x384 .f32 :=
  Host.reduce FloatOps.maximumf (Host.absf (rBlk X)) (constant S_ .f32 0xFF800000#32) reducesTo_S2x896x384x32_S2x896x384_d3 h_S_
/-- the arguments of their exponents, -/
def rArg (X : FVec Ideal S2x896x12288 .f32) : FVec Ideal S2x896x384 .f32 := mulf (rMax X) (broadcastInDim S2x896x384 ![] bcast_S_S2x896x384 (constant S_ .f32 0x37924925#32))
/-- the counts of powers of two, -/
def rCount (X : FVec Ideal S2x896x12288 .f32) : IVec S2x896x384 32 :=
  Host.reduce IntOp.addi (extui 32 (cmpf .oge
    (broadcastInDim S2x896x384x254 ![0, 1, 2, 3] bcast_S2x896x384x1_S2x896x384x254_0_1_2_3 (broadcastInDim S2x896x384x1 ![0, 1, 2] bcast_S2x896x384_S2x896x384x1_0_1_2 (rArg X)))
    (broadcastInDim S2x896x384x254 ![0, 1, 2, 3] bcast_S1x1x1x254_S2x896x384x254_0_1_2_3 (broadcastInDim S1x1x1x254 ![3] bcast_S254_S1x1x1x254_3 powers))) natLt_1_32)
    (constantI S_ 32 0#32) reducesTo_S2x896x384x254_S2x896x384_d3 h_S_
/-- the exponents, -/
def rExp (X : FVec Ideal S2x896x12288 .f32) : IVec S2x896x384 32 :=
  select (cmpf .oeq (rMax X) (broadcastInDim S2x896x384 ![] bcast_S_S2x896x384 (constant S_ .f32 0x00000000#32))) (broadcastInDim S2x896x384 ![] bcast_S_S2x896x384 (constantI S_ 32 0#32))
    (select (cmpf .olt (rArg X) (broadcastInDim S2x896x384 ![] bcast_S_S2x896x384 (constant S_ .f32 0x00800000#32))) (broadcastInDim S2x896x384 ![] bcast_S_S2x896x384 (constantI S_ 32 0#32)) (subi (rCount X) (broadcastInDim S2x896x384 ![] bcast_S_S2x896x384 (constantI S_ 32 126#32))))
/-- the scales, -/
def rScale (X : FVec Ideal S2x896x12288 .f32) : FVec Ideal S2x896x384 .f32 :=
  select (cmpi .slt (negi (rExp X)) (broadcastInDim S2x896x384 ![] bcast_S_S2x896x384 (constantI S_ 32 4294967170#32))) (broadcastInDim S2x896x384 ![] bcast_S_S2x896x384 (constant S_ .f32 0x00000000#32)) (Host.powf (broadcastInDim S2x896x384 ![] bcast_S_S2x896x384 (constant S_ .f32 0x40000000#32)) (sitofp .f32 (negi (rExp X))))
/-- the values before the cast, -/
def rVal (X : FVec Ideal S2x896x12288 .f32) : FVec Ideal S2x896x384x32 .f32 :=
  minimumf (broadcastInDim S2x896x384x32 ![] bcast_S_S2x896x384x32 (constant S_ .f32 0x47600000#32)) (maximumf (broadcastInDim S2x896x384x32 ![] bcast_S_S2x896x384x32 (constant S_ .f32 0xC7600000#32)) (mulf (rBlk X)
    (broadcastInDim S2x896x384x32 ![0, 1, 2, 3] bcast_S2x896x384x1_S2x896x384x32_0_1_2_3 (broadcastInDim S2x896x384x1 ![0, 1, 2] bcast_S2x896x384_S2x896x384x1_0_1_2 (rScale X)))))
/-- and the scale codes. -/
def rWord (X : FVec Ideal S2x896x12288 .f32) : IVec S2x896x384 8 :=
  trunci 8 (minsi (broadcastInDim S2x896x384 ![] bcast_S_S2x896x384 (constantI S_ 32 254#32)) (maxsi (broadcastInDim S2x896x384 ![] bcast_S_S2x896x384 (constantI S_ 32 0#32)) (addi (rExp X) (broadcastInDim S2x896x384 ![] bcast_S_S2x896x384 (constantI S_ 32 127#32))))) natLt_8_32

/-- The columns' blocks of 32, -/
def cBlk (X : FVec Ideal S2x896x12288 .f32) : FVec Ideal S12288x56x32 .f32 := shapeCast S12288x56x32 (transpose S12288x1792 [1, 0] (shapeCast S1792x12288 X shapeCasts_S2x896x12288_S1792x12288) transposes_S1792x12288_S12288x1792_1_0) shapeCasts_S12288x1792_S12288x56x32
/-- their greatest magnitudes, -/
def cMax (X : FVec Ideal S2x896x12288 .f32) : FVec Ideal S12288x56 .f32 :=
  Host.reduce FloatOps.maximumf (Host.absf (cBlk X)) (constant S_ .f32 0xFF800000#32) reducesTo_S12288x56x32_S12288x56_d2 h_S_
/-- the arguments of their exponents, -/
def cArg (X : FVec Ideal S2x896x12288 .f32) : FVec Ideal S12288x56 .f32 := mulf (cMax X) (broadcastInDim S12288x56 ![] bcast_S_S12288x56 (constant S_ .f32 0x37924925#32))
/-- the counts of powers of two, -/
def cCount (X : FVec Ideal S2x896x12288 .f32) : IVec S12288x56 32 :=
  Host.reduce IntOp.addi (extui 32 (cmpf .oge
    (broadcastInDim S12288x56x254 ![0, 1, 2] bcast_S12288x56x1_S12288x56x254_0_1_2 (broadcastInDim S12288x56x1 ![0, 1] bcast_S12288x56_S12288x56x1_0_1 (cArg X)))
    (broadcastInDim S12288x56x254 ![0, 1, 2] bcast_S1x1x254_S12288x56x254_0_1_2 (broadcastInDim S1x1x254 ![2] bcast_S254_S1x1x254_2 powers))) natLt_1_32)
    (constantI S_ 32 0#32) reducesTo_S12288x56x254_S12288x56_d2 h_S_
/-- the exponents, -/
def cExp (X : FVec Ideal S2x896x12288 .f32) : IVec S12288x56 32 :=
  select (cmpf .oeq (cMax X) (broadcastInDim S12288x56 ![] bcast_S_S12288x56 (constant S_ .f32 0x00000000#32))) (broadcastInDim S12288x56 ![] bcast_S_S12288x56 (constantI S_ 32 0#32))
    (select (cmpf .olt (cArg X) (broadcastInDim S12288x56 ![] bcast_S_S12288x56 (constant S_ .f32 0x00800000#32))) (broadcastInDim S12288x56 ![] bcast_S_S12288x56 (constantI S_ 32 0#32)) (subi (cCount X) (broadcastInDim S12288x56 ![] bcast_S_S12288x56 (constantI S_ 32 126#32))))
/-- the scales, -/
def cScale (X : FVec Ideal S2x896x12288 .f32) : FVec Ideal S12288x56 .f32 :=
  select (cmpi .slt (negi (cExp X)) (broadcastInDim S12288x56 ![] bcast_S_S12288x56 (constantI S_ 32 4294967170#32))) (broadcastInDim S12288x56 ![] bcast_S_S12288x56 (constant S_ .f32 0x00000000#32)) (Host.powf (broadcastInDim S12288x56 ![] bcast_S_S12288x56 (constant S_ .f32 0x40000000#32)) (sitofp .f32 (negi (cExp X))))
/-- the values before the cast, -/
def cVal (X : FVec Ideal S2x896x12288 .f32) : FVec Ideal S12288x56x32 .f32 :=
  minimumf (broadcastInDim S12288x56x32 ![] bcast_S_S12288x56x32 (constant S_ .f32 0x47600000#32)) (maximumf (broadcastInDim S12288x56x32 ![] bcast_S_S12288x56x32 (constant S_ .f32 0xC7600000#32)) (mulf (cBlk X)
    (broadcastInDim S12288x56x32 ![0, 1, 2] bcast_S12288x56x1_S12288x56x32_0_1_2 (broadcastInDim S12288x56x1 ![0, 1] bcast_S12288x56_S12288x56x1_0_1 (cScale X)))))
/-- and the scale codes. -/
def cWord (X : FVec Ideal S2x896x12288 .f32) : IVec S12288x56 8 :=
  trunci 8 (minsi (broadcastInDim S12288x56 ![] bcast_S_S12288x56 (constantI S_ 32 254#32)) (maxsi (broadcastInDim S12288x56 ![] bcast_S_S12288x56 (constantI S_ 32 0#32)) (addi (cExp X) (broadcastInDim S12288x56 ![] bcast_S_S12288x56 (constantI S_ 32 127#32))))) natLt_8_32

/-! ## The host values are these terms -/

variable (m : (ℓ : Loc nD τ sig) → Buf (Elt Ideal) ℓ)

/-- dx of a memory's arguments. -/
def dxM (c : Dev nD) : FVec Ideal S2x896x12288 .f32 :=
  dxT (m ((c : Thread nD τ).loc main_arg0)) (m ((c : Thread nD τ).loc main_arg1)) (m ((c : Thread nD τ).loc main_arg2)) (m ((c : Thread nD τ).loc main_arg3))

/-- dgamma is its term. -/
theorem V20 (c : Dev nD) : V (F := Ideal) m c main_v20
    = dgT (m ((c : Thread nD τ).loc main_arg0)) (m ((c : Thread nD τ).loc main_arg1)) (m ((c : Thread nD τ).loc main_arg3)) := by
  unfold V
  after_reads_simp
  rfl

/-- The row scale codes are their term. -/
theorem V105 (c : Dev nD) : V (F := Ideal) m c main_v105 = shapeCast S1792x384 (rWord (dxM m c)) shapeCasts_S2x896x384_S1792x384 := by
  unfold V
  after_reads_simp
  simp -implicitDefEqProofs only [StableHlo.TRef.toBuf, StableHlo.TRef.ofBuf, cast_cast, cast_eq]
  unfold rWord rExp rCount rArg rMax rBlk dxM dxT meanT gT xhT rT powers
  rfl

/-- The scaled and clipped rows are their term. -/
theorem V106 (c : Dev nD) : V (F := Ideal) m c main_v106 = shapeCast S1792x12288 (rVal (dxM m c)) shapeCasts_S2x896x384x32_S1792x12288 := by
  unfold V
  after_reads_simp
  simp -implicitDefEqProofs only [StableHlo.TRef.toBuf, StableHlo.TRef.ofBuf, cast_cast, cast_eq]
  unfold rVal rScale rExp rCount rArg rMax rBlk dxM dxT meanT gT xhT rT powers
  rfl

/-- The column scale codes are their term. -/
theorem V104 (c : Dev nD) : V (F := Ideal) m c main_v104 = cWord (dxM m c) := by
  unfold V
  after_reads_simp
  simp -implicitDefEqProofs only [StableHlo.TRef.toBuf, StableHlo.TRef.ofBuf, cast_cast, cast_eq]
  unfold cWord cExp cCount cArg cMax cBlk dxM dxT meanT gT xhT rT powers
  rfl

/-- The scaled and clipped columns are their term. -/
theorem V107 (c : Dev nD) : V (F := Ideal) m c main_v107 = shapeCast S12288x1792 (cVal (dxM m c)) shapeCasts_S12288x56x32_S12288x1792 := by
  unfold V
  after_reads_simp
  simp -implicitDefEqProofs only [StableHlo.TRef.toBuf, StableHlo.TRef.ofBuf, cast_cast, cast_eq]
  unfold cVal cScale cExp cCount cArg cMax cBlk dxM dxT meanT gT xhT rT powers
  rfl

end Cert.ReferenceIdeal.Hand

end
-- ==== Proof.ReferenceRead.lean ====
/- The reference's host values read at an element: the gradient of a row, the terms of dgamma, and the codes and scale codes
   of the rows' and of the columns' blocks of 32. -/
module

public import proofs.«01_k».proof.Proof.RefTerms
public import proofs.«01_k».proof.Proof.Quant
public import Idealize.ShloMosaic.Lib.IdealHost

@[expose] public section

set_option maxRecDepth 16384

noncomputable section

namespace Cert.ReferenceIdeal.Hand

open Idealize.ShloMosaic Idealize.ShloMosaic.TcCoe Idealize.ShloMosaic.Tactic
open Cert.ReferenceIdeal.Gen Cert.Mx

/-- Dividing by 12288 is multiplying by its inverse. -/
theorem div_d (v : EReal) : Ideal.div v (Ideal.ofBits .f32 0x46400000#32) = v * ((1 / 12288 : ℝ) : EReal) := by
  have h : Ideal.ofBits .f32 0x46400000#32 = ((12288 : ℝ) : EReal) := by
    simp [Ideal.ofBits, Ideal.ieee, -EReal.coe_mul]
    norm_num
  rw [h]
  unfold Ideal.div
  rw [if_neg (by norm_num)]
  norm_num [← EReal.coe_inv]

section Terms
variable (x dy : FVec Ideal S2x896x12288 .bf16) (g : FVec Ideal S12288 .f32) (r : FVec Ideal S2x896 .f32)

/-- The mean of a row. -/
theorem meanT_at (b : Fin 2) (s : Fin 896) : meanT x dy g r (ix3 b s 0)
    = rowMean (fun L => x (ix3 b s L)) (fun L => dy (ix3 b s L)) (fun L => g (ix1 L)) (r (ix2 b s)) := by
  pointwise [meanT, gT, xhT, rT]
  exact div_d _

/-- The gradient at an element. -/
theorem dxT_at (b : Fin 2) (s : Fin 896) (L : Fin 12288) : dxT x dy g r (ix3 b s L)
    = rowDx (fun L => x (ix3 b s L)) (fun L => dy (ix3 b s L)) (fun L => g (ix1 L)) (r (ix2 b s)) L := by
  pointwise [dxT, gT, xhT, rT]
  rw [meanT_at]
  rfl

/-- An index of the input's shape drops to a column exactly when it is one of the column's, -/
theorem fiber01 (h : S2x896x12288.ReducesTo [0, 1] S12288) (L : Fin 12288) (i : S2x896x12288.Idx) :
    h.drop i = ix1 L ↔ ∃ k : Fin 2 × Fin 896, ix3 k.1 k.2 L = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b
    apply Fin.ext
    match b with
    | ⟨0, _⟩ => rfl
    | ⟨_ + 1, hb⟩ => exact absurd hb (by show ¬ _ < 1; omega)

/-- so the sum over both leading axes is the double sum. -/
theorem sum01 (h : S2x896x12288.ReducesTo [0, 1] S12288) (v : S2x896x12288.Idx → EReal) (init : EReal) (L : Fin 12288) :
    Ideal.hostReduceAdd h v init (ix1 L) = init + ∑ b : Fin 2, ∑ s : Fin 896, v (ix3 b s L) := by
  refine congrArg (init + ·) ?_
  refine (Finset.sum_filter_eq_sum_of_fiber _ (fun k : Fin 2 × Fin 896 => ix3 k.1 k.2 L)
    (fun _ _ e => Prod.ext (congrFun e 0) (congrFun e 1)) (fiber01 h L) v).trans ?_
  simp only [Fintype.sum_prod_type]

/-- The terms of dgamma at an element. -/
theorem dgSum_at (b : Fin 2) (s : Fin 896) (L : Fin 12288) :
    mulf (extf .f32 dy bitsLt_bf16_f32) (xhT x r) (ix3 b s L) = dy (ix3 b s L) * (x (ix3 b s L) * r (ix2 b s)) := by
  pointwise [xhT, rT]

/-- dgamma at an element. -/
theorem dgT_at (L : Fin 12288) : dgT x dy r (ix2 0 L) = ∑ b : Fin 2, ∑ s : Fin 896, dy (ix3 b s L) * (x (ix3 b s L) * r (ix2 b s)) := by
  unfold dgT
  have e : ∀ v : FVec Ideal S12288 .f32, shapeCast S1x12288 v shapeCasts_S12288_S1x12288 (ix2 0 L) = v (ix1 L) := by
    intro v
    pointwise
  rw [e]
  refine (sum01 _ _ _ L).trans ?_
  have z : (constant S_ .f32 0x00000000#32 : FVec Ideal S_ .f32) (Shape.Idx.first h_S_) = 0 := Ideal.ofBits_zero_f32
  rw [z, zero_add]
  exact Finset.sum_congr rfl fun b _ => Finset.sum_congr rfl fun s _ => dgSum_at x dy r b s L
end Terms

/-! ## The quantiser of a row's blocks

Each step first over arbitrary vectors, then of the reference's own. -/

section
variable (X : FVec Ideal S2x896x12288 .f32) (B : FVec Ideal S2x896x384x32 .f32) (M A Z : FVec Ideal S2x896x384 .f32) (C E : IVec S2x896x384 32) (P : FVec Ideal S254 .f32) (b : Fin 2) (s : Fin 896) (k : Fin 384)

/-- A block's element. -/
theorem rBlk_at (t : Fin 32) : rBlk X (ix4 b s k t) = X (ix3 b s ⟨32 * k.val + t.val, by omega⟩) := by
  pointwise [rBlk]
  try simp only [Nat.mul_comm _ 32]

/-- The greatest magnitude of a row block, over an arbitrary array. -/
theorem rMax_op : Host.reduce FloatOps.maximumf (Host.absf B) (constant S_ .f32 0xFF800000#32) reducesTo_S2x896x384x32_S2x896x384_d3 h_S_ (ix3 b s k)
    = amax fun t : Fin 32 => mag (B (ix4 b s k t)) := by
  pointwise
  rfl

/-- The greatest magnitude of a block, -/
theorem rMax_at : rMax X (ix3 b s k) = amax fun t : Fin 32 => mag (X (ix3 b s ⟨32 * k.val + t.val, by omega⟩)) :=
  (rMax_op (rBlk X) b s k).trans (congrArg amax (funext fun t => congrArg mag (rBlk_at X b s k t)))

/-- The argument of a row block's exponent, over an arbitrary array. -/
theorem rArg_op : mulf M (broadcastInDim S2x896x384 ![] bcast_S_S2x896x384 (constant S_ .f32 0x37924925#32)) (ix3 b s k) = M (ix3 b s k) * Ideal.ofBits .f32 0x37924925#32 := rfl

/-- the argument of its exponent, -/
theorem rArg_at : rArg X (ix3 b s k) = arg fun t : Fin 32 => X (ix3 b s ⟨32 * k.val + t.val, by omega⟩) :=
  (rArg_op (rMax X) b s k).trans (congrArg (· * Ideal.ofBits .f32 0x37924925#32) (rMax_at X b s k))

/-- The count of powers of two of a row block, over arbitrary arrays. -/
theorem rCount_op : Host.reduce IntOp.addi (extui 32 (cmpf .oge
    (broadcastInDim S2x896x384x254 ![0, 1, 2, 3] bcast_S2x896x384x1_S2x896x384x254_0_1_2_3 (broadcastInDim S2x896x384x1 ![0, 1, 2] bcast_S2x896x384_S2x896x384x1_0_1_2 A))
    (broadcastInDim S2x896x384x254 ![0, 1, 2, 3] bcast_S1x1x1x254_S2x896x384x254_0_1_2_3 (broadcastInDim S1x1x1x254 ![3] bcast_S254_S1x1x1x254_3 P))) natLt_1_32)
    (constantI S_ 32 0#32) reducesTo_S2x896x384x254_S2x896x384_d3 h_S_ (ix3 b s k)
    = Finset.univ.fold IntOp.addi 0#32 fun j : Fin 254 => BitVec.setWidth 32 (Ideal.cmp .oge (A (ix3 b s k)) (P (ix1 j))) := by
  pointwise
  try rfl

/-- the count of powers of two, -/
theorem rCount_at : rCount X (ix3 b s k) = Mx.count (rArg X (ix3 b s k)) :=
  rCount_op (rArg X) powers b s k

/-- The exponent of a row block, over arbitrary arrays. -/
theorem rExp_op : select (cmpf .oeq M (broadcastInDim S2x896x384 ![] bcast_S_S2x896x384 (constant S_ .f32 0x00000000#32))) (broadcastInDim S2x896x384 ![] bcast_S_S2x896x384 (constantI S_ 32 0#32))
    (select (cmpf .olt A (broadcastInDim S2x896x384 ![] bcast_S_S2x896x384 (constant S_ .f32 0x00800000#32))) (broadcastInDim S2x896x384 ![] bcast_S_S2x896x384 (constantI S_ 32 0#32)) (subi C (broadcastInDim S2x896x384 ![] bcast_S_S2x896x384 (constantI S_ 32 126#32)))) (ix3 b s k)
    = Scalar.select (Ideal.cmp .oeq (M (ix3 b s k)) (Ideal.ofBits .f32 0x00000000#32)) 0#32
        (Scalar.select (Ideal.cmp .olt (A (ix3 b s k)) (Ideal.ofBits .f32 0x00800000#32)) 0#32 (IntOp.subi (C (ix3 b s k)) 126#32)) := rfl

/-- its exponent, -/
theorem rExp_at : rExp X (ix3 b s k) = expRef (rMax X (ix3 b s k)) (rArg X (ix3 b s k)) := by
  unfold expRef
  rw [← rCount_at, ← Ideal.ofBits_zero_f32]
  exact rExp_op (rMax X) (rArg X) (rCount X) b s k

/-- The scale of a row block, over an arbitrary array. -/
theorem rScale_op : select (cmpi .slt (negi E) (broadcastInDim S2x896x384 ![] bcast_S_S2x896x384 (constantI S_ 32 4294967170#32))) (broadcastInDim S2x896x384 ![] bcast_S_S2x896x384 (constant S_ .f32 0x00000000#32)) (Host.powf (broadcastInDim S2x896x384 ![] bcast_S_S2x896x384 (constant S_ .f32 0x40000000#32)) (sitofp .f32 (negi E))) (ix3 b s k)
    = Scalar.select (IntOp.cmpi .slt (-E (ix3 b s k)) 4294967170#32) (Ideal.ofBits .f32 0x00000000#32) (Ideal.pow (Ideal.ofBits .f32 0x40000000#32) (((-E (ix3 b s k)).toInt : ℝ) : EReal)) := rfl

/-- its scale, -/
theorem rScale_at : rScale X (ix3 b s k) = scaleRef (rExp X (ix3 b s k)) := by
  unfold scaleRef
  rw [← Ideal.ofBits_zero_f32]
  exact rScale_op (rExp X) b s k

/-- The scaled and clipped element of a row block, over arbitrary arrays. -/
theorem rVal_op (t : Fin 32) : minimumf (broadcastInDim S2x896x384x32 ![] bcast_S_S2x896x384x32 (constant S_ .f32 0x47600000#32)) (maximumf (broadcastInDim S2x896x384x32 ![] bcast_S_S2x896x384x32 (constant S_ .f32 0xC7600000#32)) (mulf B
      (broadcastInDim S2x896x384x32 ![0, 1, 2, 3] bcast_S2x896x384x1_S2x896x384x32_0_1_2_3 (broadcastInDim S2x896x384x1 ![0, 1, 2] bcast_S2x896x384_S2x896x384x1_0_1_2 Z)))) (ix4 b s k t)
    = code (B (ix4 b s k t)) (Z (ix3 b s k)) := by
  pointwise
  try rfl

/-- its values before the cast, -/
theorem rVal_at (t : Fin 32) : rVal X (ix4 b s k t) = code (X (ix3 b s ⟨32 * k.val + t.val, by omega⟩)) (rScale X (ix3 b s k)) :=
  (rVal_op (rBlk X) (rScale X) b s k t).trans (congrArg (fun v => code v (rScale X (ix3 b s k))) (rBlk_at X b s k t))

/-- The scale code of a row block, over an arbitrary array. -/
theorem rWord_op : trunci 8 (minsi (broadcastInDim S2x896x384 ![] bcast_S_S2x896x384 (constantI S_ 32 254#32)) (maxsi (broadcastInDim S2x896x384 ![] bcast_S_S2x896x384 (constantI S_ 32 0#32)) (addi E (broadcastInDim S2x896x384 ![] bcast_S_S2x896x384 (constantI S_ 32 127#32))))) natLt_8_32 (ix3 b s k) = word (E (ix3 b s k)) := rfl

/-- and its scale code. -/
theorem rWord_at : rWord X (ix3 b s k) = word (rExp X (ix3 b s k)) := rWord_op (rExp X) b s k

end

/-! ## The quantiser of a column's blocks

Each step first over arbitrary vectors, then of the reference's own. -/

section
variable (X : FVec Ideal S2x896x12288 .f32) (B : FVec Ideal S12288x56x32 .f32) (M A Z : FVec Ideal S12288x56 .f32) (C E : IVec S12288x56 32) (P : FVec Ideal S254 .f32) (L : Fin 12288) (k : Fin 56)

/-- A block's element. -/
theorem cBlk_at (t : Fin 32) : cBlk X (ix3 L k t) = X (ix3 ⟨(32 * k.val + t.val) / 896, by omega⟩ ⟨(32 * k.val + t.val) % 896, by omega⟩ L) := by
  pointwise [cBlk]
  try simp only [Nat.mul_comm _ 32]

/-- The greatest magnitude of a column block, over an arbitrary array. -/
theorem cMax_op : Host.reduce FloatOps.maximumf (Host.absf B) (constant S_ .f32 0xFF800000#32) reducesTo_S12288x56x32_S12288x56_d2 h_S_ (ix2 L k)
    = amax fun t : Fin 32 => mag (B (ix3 L k t)) := by
  pointwise
  rfl

/-- The greatest magnitude of a block, -/
theorem cMax_at : cMax X (ix2 L k) = amax fun t : Fin 32 => mag (X (ix3 ⟨(32 * k.val + t.val) / 896, by omega⟩ ⟨(32 * k.val + t.val) % 896, by omega⟩ L)) :=
  (cMax_op (cBlk X) L k).trans (congrArg amax (funext fun t => congrArg mag (cBlk_at X L k t)))

/-- The argument of a column block's exponent, over an arbitrary array. -/
theorem cArg_op : mulf M (broadcastInDim S12288x56 ![] bcast_S_S12288x56 (constant S_ .f32 0x37924925#32)) (ix2 L k) = M (ix2 L k) * Ideal.ofBits .f32 0x37924925#32 := rfl

/-- the argument of its exponent, -/
theorem cArg_at : cArg X (ix2 L k) = arg fun t : Fin 32 => X (ix3 ⟨(32 * k.val + t.val) / 896, by omega⟩ ⟨(32 * k.val + t.val) % 896, by omega⟩ L) :=
  (cArg_op (cMax X) L k).trans (congrArg (· * Ideal.ofBits .f32 0x37924925#32) (cMax_at X L k))

/-- The count of powers of two of a column block, over arbitrary arrays. -/
theorem cCount_op : Host.reduce IntOp.addi (extui 32 (cmpf .oge
    (broadcastInDim S12288x56x254 ![0, 1, 2] bcast_S12288x56x1_S12288x56x254_0_1_2 (broadcastInDim S12288x56x1 ![0, 1] bcast_S12288x56_S12288x56x1_0_1 A))
    (broadcastInDim S12288x56x254 ![0, 1, 2] bcast_S1x1x254_S12288x56x254_0_1_2 (broadcastInDim S1x1x254 ![2] bcast_S254_S1x1x254_2 P))) natLt_1_32)
    (constantI S_ 32 0#32) reducesTo_S12288x56x254_S12288x56_d2 h_S_ (ix2 L k)
    = Finset.univ.fold IntOp.addi 0#32 fun j : Fin 254 => BitVec.setWidth 32 (Ideal.cmp .oge (A (ix2 L k)) (P (ix1 j))) := by
  pointwise
  try rfl

/-- the count of powers of two, -/
theorem cCount_at : cCount X (ix2 L k) = Mx.count (cArg X (ix2 L k)) :=
  cCount_op (cArg X) powers L k

/-- The exponent of a column block, over arbitrary arrays. -/
theorem cExp_op : select (cmpf .oeq M (broadcastInDim S12288x56 ![] bcast_S_S12288x56 (constant S_ .f32 0x00000000#32))) (broadcastInDim S12288x56 ![] bcast_S_S12288x56 (constantI S_ 32 0#32))
    (select (cmpf .olt A (broadcastInDim S12288x56 ![] bcast_S_S12288x56 (constant S_ .f32 0x00800000#32))) (broadcastInDim S12288x56 ![] bcast_S_S12288x56 (constantI S_ 32 0#32)) (subi C (broadcastInDim S12288x56 ![] bcast_S_S12288x56 (constantI S_ 32 126#32)))) (ix2 L k)
    = Scalar.select (Ideal.cmp .oeq (M (ix2 L k)) (Ideal.ofBits .f32 0x00000000#32)) 0#32
        (Scalar.select (Ideal.cmp .olt (A (ix2 L k)) (Ideal.ofBits .f32 0x00800000#32)) 0#32 (IntOp.subi (C (ix2 L k)) 126#32)) := rfl

/-- its exponent, -/
theorem cExp_at : cExp X (ix2 L k) = expRef (cMax X (ix2 L k)) (cArg X (ix2 L k)) := by
  unfold expRef
  rw [← cCount_at, ← Ideal.ofBits_zero_f32]
  exact cExp_op (cMax X) (cArg X) (cCount X) L k

/-- The scale of a column block, over an arbitrary array. -/
theorem cScale_op : select (cmpi .slt (negi E) (broadcastInDim S12288x56 ![] bcast_S_S12288x56 (constantI S_ 32 4294967170#32))) (broadcastInDim S12288x56 ![] bcast_S_S12288x56 (constant S_ .f32 0x00000000#32)) (Host.powf (broadcastInDim S12288x56 ![] bcast_S_S12288x56 (constant S_ .f32 0x40000000#32)) (sitofp .f32 (negi E))) (ix2 L k)
    = Scalar.select (IntOp.cmpi .slt (-E (ix2 L k)) 4294967170#32) (Ideal.ofBits .f32 0x00000000#32) (Ideal.pow (Ideal.ofBits .f32 0x40000000#32) (((-E (ix2 L k)).toInt : ℝ) : EReal)) := rfl

/-- its scale, -/
theorem cScale_at : cScale X (ix2 L k) = scaleRef (cExp X (ix2 L k)) := by
  unfold scaleRef
  rw [← Ideal.ofBits_zero_f32]
  exact cScale_op (cExp X) L k

/-- The scaled and clipped element of a column block, over arbitrary arrays. -/
theorem cVal_op (t : Fin 32) : minimumf (broadcastInDim S12288x56x32 ![] bcast_S_S12288x56x32 (constant S_ .f32 0x47600000#32)) (maximumf (broadcastInDim S12288x56x32 ![] bcast_S_S12288x56x32 (constant S_ .f32 0xC7600000#32)) (mulf B
      (broadcastInDim S12288x56x32 ![0, 1, 2] bcast_S12288x56x1_S12288x56x32_0_1_2 (broadcastInDim S12288x56x1 ![0, 1] bcast_S12288x56_S12288x56x1_0_1 Z)))) (ix3 L k t)
    = code (B (ix3 L k t)) (Z (ix2 L k)) := by
  pointwise
  try rfl

/-- its values before the cast, -/
theorem cVal_at (t : Fin 32) : cVal X (ix3 L k t) = code (X (ix3 ⟨(32 * k.val + t.val) / 896, by omega⟩ ⟨(32 * k.val + t.val) % 896, by omega⟩ L)) (cScale X (ix2 L k)) :=
  (cVal_op (cBlk X) (cScale X) L k t).trans (congrArg (fun v => code v (cScale X (ix2 L k))) (cBlk_at X L k t))

/-- The scale code of a column block, over an arbitrary array. -/
theorem cWord_op : trunci 8 (minsi (broadcastInDim S12288x56 ![] bcast_S_S12288x56 (constantI S_ 32 254#32)) (maxsi (broadcastInDim S12288x56 ![] bcast_S_S12288x56 (constantI S_ 32 0#32)) (addi E (broadcastInDim S12288x56 ![] bcast_S_S12288x56 (constantI S_ 32 127#32))))) natLt_8_32 (ix2 L k) = word (E (ix2 L k)) := rfl

/-- and its scale code. -/
theorem cWord_at : cWord X (ix2 L k) = word (cExp X (ix2 L k)) := cWord_op (cExp X) L k

end

end Cert.ReferenceIdeal.Hand

end
-- ==== Proof.ReferenceArrays.lean ====
/- The arrays the reference leaves: each result over the whole array, as a function of the gradient of the arguments. -/
module

public import proofs.«01_k».proof.Proof.ReferenceRead
public import proofs.«01_k».proof.Proof.Whole
public import Idealize.ShloMosaic.Lib.Pipeline.ValueKit.Point
public import Idealize.ShloMosaic.Lib.Claim

@[expose] public section

set_option maxRecDepth 16384

noncomputable section

namespace Cert.ReferenceIdeal.Hand

open Idealize.ShloMosaic Idealize.ShloMosaic.TcCoe Idealize.ShloMosaic.Tactic
open Cert.ReferenceIdeal.Gen Cert.Mx

variable (m : (ℓ : Loc nD τ sig) → Buf (Elt Ideal) ℓ) (c : Dev nD)

/-- The gradient over the flattened rows, of a memory's arguments. -/
def dxH : Fin 1792 → Fin 12288 → EReal :=
  gdx (fun b s L => m ((c : Thread nD τ).loc main_arg0) (ix3 b s L)) (fun b s L => m ((c : Thread nD τ).loc main_arg1) (ix3 b s L))
    (fun L => m ((c : Thread nD τ).loc main_arg2) (ix1 L)) (fun b s => m ((c : Thread nD τ).loc main_arg3) (ix2 b s))

/-- dgamma of a memory's arguments. -/
def dgH : Fin 12288 → EReal :=
  dgSum (fun b s L => m ((c : Thread nD τ).loc main_arg0) (ix3 b s L)) (fun b s L => m ((c : Thread nD τ).loc main_arg1) (ix3 b s L))
    (fun b s => m ((c : Thread nD τ).loc main_arg3) (ix2 b s))

/-- dx of the reference, at a flattened row and a column. -/
theorem dxM_at (R : Fin 1792) (L : Fin 12288) : dxM m c (ix3 (rowOut R) (rowIn R) L) = dxH m c R L :=
  dxT_at _ _ _ _ (rowOut R) (rowIn R) L

/-! ## The reshapes, at an element -/

/-- The row scale codes with their rows flattened, at an element. -/
theorem cast105 (W : IVec S2x896x384 8) (R : Fin 1792) (k : Fin 384) :
    shapeCast S1792x384 W shapeCasts_S2x896x384_S1792x384 (ix2 R k) = W (ix3 (rowOut R) (rowIn R) k) := by
  unfold rowOut rowIn
  pointwise

/-- The row blocks with rows and blocks flattened, at an element. -/
theorem cast106 (W : FVec Ideal S2x896x384x32 .f32) (R : Fin 1792) (L : Fin 12288) :
    shapeCast S1792x12288 W shapeCasts_S2x896x384x32_S1792x12288 (ix2 R L)
      = W (ix4 (rowOut R) (rowIn R) ⟨L.val / 32, by omega⟩ ⟨L.val % 32, by omega⟩) := by
  unfold rowOut rowIn
  pointwise

/-- The column blocks with blocks flattened, at an element. -/
theorem cast107 (W : FVec Ideal S12288x56x32 .f32) (L : Fin 12288) (R : Fin 1792) :
    shapeCast S12288x1792 W shapeCasts_S12288x56x32_S12288x1792 (ix2 L R)
      = W (ix3 L ⟨R.val / 32, by omega⟩ ⟨R.val % 32, by omega⟩) := by
  pointwise

/-! ## The blocks' exponents, codes and scale codes -/

/-- The exponent of a row block of dx. -/
theorem rExp_dx (R : Fin 1792) (k : Fin 384) : rExp (dxM m c) (ix3 (rowOut R) (rowIn R) k) = expH (rowBlock (dxH m c) R k) := by
  rw [rExp_at, rMax_at, rArg_at]
  simp only [dxM_at]
  rfl

/-- The exponent of a column block of dx. -/
theorem cExp_dx (L : Fin 12288) (k : Fin 56) : cExp (dxM m c) (ix2 L k) = expH (colBlock (dxH m c) L k) := by
  have h : ∀ t : Fin 32, dxM m c (ix3 ⟨(32 * k.val + t.val) / 896, by omega⟩ ⟨(32 * k.val + t.val) % 896, by omega⟩ L) = colBlock (dxH m c) L k t :=
    fun t => dxM_at m c ⟨32 * k.val + t.val, by omega⟩ L
  rw [cExp_at, cMax_at, cArg_at]
  simp only [h]
  rfl

/-- A row scale code of the reference. -/
theorem sr_at (R : Fin 1792) (k : Fin 384) : shapeCast S1792x384 (rWord (dxM m c)) shapeCasts_S2x896x384_S1792x384 (ix2 R k) = srH (dxH m c) R k := by
  rw [cast105, rWord_at, rExp_dx]
  rfl

/-- A column scale code of the reference. -/
theorem sc_at (L : Fin 12288) (k : Fin 56) : cWord (dxM m c) (ix2 L k) = scH (dxH m c) L k := by
  rw [cWord_at, cExp_dx]
  rfl

/-- A row value of the reference, before the cast. -/
theorem cr_at (R : Fin 1792) (L : Fin 12288) :
    shapeCast S1792x12288 (rVal (dxM m c)) shapeCasts_S2x896x384x32_S1792x12288 (ix2 R L) = crH (dxH m c) R L := by
  rw [cast106, rVal_at, rScale_at, rExp_dx, dxM_at]
  have e : (⟨32 * (L.val / 32) + L.val % 32, by omega⟩ : Fin 12288) = L := Fin.ext (by show 32 * (L.val / 32) + L.val % 32 = L.val; omega)
  rw [e]
  rfl

/-- A column value of the reference, before the cast. -/
theorem cc_at (L : Fin 12288) (R : Fin 1792) :
    shapeCast S12288x1792 (cVal (dxM m c)) shapeCasts_S12288x56x32_S12288x1792 (ix2 L R) = ccH (dxH m c) L R := by
  rw [cast107, cVal_at, cScale_at, cExp_dx]
  have ix : (ix3 ⟨(32 * (R.val / 32) + R.val % 32) / 896, by omega⟩ ⟨(32 * (R.val / 32) + R.val % 32) % 896, by omega⟩ L : S2x896x12288.Idx) = ix3 (rowOut R) (rowIn R) L :=
    congrArg₂ (fun b s => ix3 b s L) (Fin.ext (by show (32 * (R.val / 32) + R.val % 32) / 896 = R.val / 896; omega))
      (Fin.ext (by show (32 * (R.val / 32) + R.val % 32) % 896 = R.val % 896; omega))
  exact congrArg (fun v => code v (scaleRef (expH (colBlock (dxH m c) L ⟨R.val / 32, by omega⟩)))) ((congrArg (dxM m c) ix).trans (dxM_at m c R L))

/-- dgamma of the reference, at a column. -/
theorem dg_at (L : Fin 12288) :
    dgT (m ((c : Thread nD τ).loc main_arg0)) (m ((c : Thread nD τ).loc main_arg1)) (m ((c : Thread nD τ).loc main_arg3)) (ix2 0 L) = dgH m c L := by
  rw [dgT_at]
  unfold dgH
  rw [dgSum_eq]
  rfl

/-! ## The arrays after the run -/

/-- An index into a matrix is the pair of its coordinates. -/
theorem eta2 {n k : ℕ} (y : (⟨2, ![n, k]⟩ : Shape).Idx) : y = ix2 (y 0) (y 1) :=
  funext fun a => match a with | ⟨0, _⟩ => rfl | ⟨1, _⟩ => rfl

/-- The row scale codes. -/
theorem val105 : V (F := Ideal) m c main_v105 = fun y : S1792x384.Idx => srH (dxH m c) (y 0) (y 1) := by
  rw [V105]
  exact funext fun (y : S1792x384.Idx) => (congrArg _ (eta2 y)).trans (sr_at m c (y 0) (y 1))

/-- The column scale codes. -/
theorem val104 : V (F := Ideal) m c main_v104 = fun y : S12288x56.Idx => scH (dxH m c) (y 0) (y 1) := by
  rw [V104]
  exact funext fun (y : S12288x56.Idx) => (congrArg _ (eta2 y)).trans (sc_at m c (y 0) (y 1))

/-- dgamma. -/
theorem val20 : V (F := Ideal) m c main_v20 = fun y : S1x12288.Idx => dgH m c (y 1) := by
  rw [V20]
  refine funext fun (y : S1x12288.Idx) => ?_
  have hy : y = ix2 (0 : Fin 1) (y 1) := (eta2 y).trans (congrArg (fun a : Fin 1 => ix2 a (y 1)) (Subsingleton.elim (α := Fin 1) _ _))
  exact (congrArg _ hy).trans (dg_at m c (y 1))

/-- The row values that are given to the cast. -/
theorem val106 : V (F := Ideal) m c main_v106 = fun y : S1792x12288.Idx => crH (dxH m c) (y 0) (y 1) := by
  rw [V106]
  exact funext fun (y : S1792x12288.Idx) => (congrArg _ (eta2 y)).trans (cr_at m c (y 0) (y 1))

/-- The column values that are given to the cast. -/
theorem val107 : V (F := Ideal) m c main_v107 = fun y : S12288x1792.Idx => ccH (dxH m c) (y 0) (y 1) := by
  rw [V107]
  exact funext fun (y : S12288x1792.Idx) => (congrArg _ (eta2 y)).trans (cc_at m c (y 0) (y 1))

/-- Block 0 of the cast is its whole array. -/
theorem index0 : ∀ t : Fin cfg0.N, win0_0.index t 0 = 0 ∧ win0_0.index t 1 = 0 := by decide +kernel
/-- Block 1 of the cast is its whole array. -/
theorem index1 : ∀ t : Fin cfg0.N, win0_1.index t 0 = 0 ∧ win0_1.index t 1 = 0 := by decide +kernel
/-- Block 2 of the cast is its whole array. -/
theorem index2 : ∀ t : Fin cfg0.N, win0_2.index t 0 = 0 ∧ win0_2.index t 1 = 0 := by decide +kernel
/-- Block 3 of the cast is its whole array. -/
theorem index3 : ∀ t : Fin cfg0.N, win0_3.index t 0 = 0 ∧ win0_3.index t 1 = 0 := by decide +kernel

variable (t : Fin cfg0.N)

/-- An element of block 2 of the cast lies at the same place in the array. -/
theorem place2 (y : S1792x12288.Idx) : ((win0_2.blk t).view.emb y : S1792x12288.Idx) = y := by
  have hi := index2 t
  funext a
  match a with
  | ⟨0, _⟩ => refine Fin.ext ?_; show win0_2.index t 0 * 1792 + 1 * (y 0).val = (y 0).val; omega
  | ⟨1, _⟩ => refine Fin.ext ?_; show win0_2.index t 1 * 12288 + 1 * (y 1).val = (y 1).val; omega

/-- An element of block 3 of the cast lies at the same place in the array. -/
theorem place3 (y : S12288x1792.Idx) : ((win0_3.blk t).view.emb y : S12288x1792.Idx) = y := by
  have hi := index3 t
  funext a
  match a with
  | ⟨0, _⟩ => refine Fin.ext ?_; show win0_3.index t 0 * 12288 + 1 * (y 0).val = (y 0).val; omega
  | ⟨1, _⟩ => refine Fin.ext ?_; show win0_3.index t 1 * 1792 + 1 * (y 1).val = (y 1).val; omega

/-- An element of block 0 of the cast lies at the same place in the array. -/
theorem place0 (y : S1792x12288.Idx) : ((win0_0.blk t).view.emb y : S1792x12288.Idx) = y := by
  have hi := index0 t
  funext a
  match a with
  | ⟨0, _⟩ => refine Fin.ext ?_; show win0_0.index t 0 * 1792 + 1 * (y 0).val = (y 0).val; omega
  | ⟨1, _⟩ => refine Fin.ext ?_; show win0_0.index t 1 * 12288 + 1 * (y 1).val = (y 1).val; omega

/-- The first argument of the cast, at an element: a row value. -/
theorem iblk0_at (y : S1792x12288.Idx) : iblk (F := Ideal) m c 0 t y = crH (dxH m c) (y 0) (y 1) := by
  have h : iblk (F := Ideal) m c 0 t y = V (F := Ideal) m c main_v106 ((win0_0.blk t).view.emb y) := rfl
  rw [h, val106]
  exact congrArg (fun y : S1792x12288.Idx => crH (dxH m c) (y 0) (y 1)) (place0 t y)

/-- The first result of the cast is its first argument. -/
theorem out2_at (P0 : Vec Ideal S1792x12288 .f32) (P1 : Vec Ideal S12288x1792 .f32) (y : S1792x12288.Idx) : out0_2 P0 P1 y = P0 y := by
  unfold out0_2
  refine (Cert.ReferenceIdeal.Value.canon2_eq (View.ld P0 r0_0) y).trans ?_
  refine congrArg P0 (funext fun a => Fin.ext ?_)
  match a with
  | ⟨0, _⟩ => show 0 + 1 * (y 0).val = (y 0).val; omega
  | ⟨1, _⟩ => show 0 + 1 * (y 1).val = (y 1).val; omega

/-- The row codes. -/
theorem arr2 : (dats (F := Ideal) m 0 c).arrAt 2 cfg0.N = fun y : S1792x12288.Idx => crH (dxH m c) (y 0) (y 1) := by
  refine (dats m 0 c).arrAt_eq_of_covers 2 (fun y : S1792x12288.Idx => crH (dxH m c) (y 0) (y 1)) (by decide +kernel) fun t hf y => ?_
  blk_simp
  rw [after0_2]
  revert y; intro (y : S1792x12288.Idx)
  refine (out2_at (iblk m c 0 t) (iblk m c 1 t) y).trans ?_
  refine (iblk0_at m c t y).trans ?_
  exact (congrArg (fun y : S1792x12288.Idx => crH (dxH m c) (y 0) (y 1)) (place2 t y)).symm

/-- An element of block 1 of the cast lies at the same place in the array. -/
theorem place1 (y : S12288x1792.Idx) : ((win0_1.blk t).view.emb y : S12288x1792.Idx) = y := by
  have hi := index1 t
  funext a
  match a with
  | ⟨0, _⟩ => refine Fin.ext ?_; show win0_1.index t 0 * 12288 + 1 * (y 0).val = (y 0).val; omega
  | ⟨1, _⟩ => refine Fin.ext ?_; show win0_1.index t 1 * 1792 + 1 * (y 1).val = (y 1).val; omega

/-- The second argument of the cast, at an element: a column value. -/
theorem iblk1_at (y : S12288x1792.Idx) : iblk (F := Ideal) m c 1 t y = ccH (dxH m c) (y 0) (y 1) := by
  have h : iblk (F := Ideal) m c 1 t y = V (F := Ideal) m c main_v107 ((win0_1.blk t).view.emb y) := rfl
  rw [h, val107]
  exact congrArg (fun y : S12288x1792.Idx => ccH (dxH m c) (y 0) (y 1)) (place1 t y)

/-- The second result of the cast is its second argument. -/
theorem out3_at (P0 : Vec Ideal S1792x12288 .f32) (P1 : Vec Ideal S12288x1792 .f32) (y : S12288x1792.Idx) : out0_3 P0 P1 y = P1 y := by
  unfold out0_3
  refine (Cert.ReferenceIdeal.Value.canon3_eq (View.ld P1 r0_1) y).trans ?_
  refine congrArg P1 (funext fun a => Fin.ext ?_)
  match a with
  | ⟨0, _⟩ => show 0 + 1 * (y 0).val = (y 0).val; omega
  | ⟨1, _⟩ => show 0 + 1 * (y 1).val = (y 1).val; omega

/-- The column codes. -/
theorem arr3 : (dats (F := Ideal) m 0 c).arrAt 3 cfg0.N = fun y : S12288x1792.Idx => ccH (dxH m c) (y 0) (y 1) := by
  refine (dats m 0 c).arrAt_eq_of_covers 3 (fun y : S12288x1792.Idx => ccH (dxH m c) (y 0) (y 1)) (by decide +kernel) fun t hf y => ?_
  blk_simp
  rw [after0_3]
  revert y; intro (y : S12288x1792.Idx)
  refine (out3_at (iblk m c 0 t) (iblk m c 1 t) y).trans ?_
  refine (iblk1_at m c t y).trans ?_
  exact (congrArg (fun y : S12288x1792.Idx => ccH (dxH m c) (y 0) (y 1)) (place3 t y)).symm

end Cert.ReferenceIdeal.Hand

end
-- ==== Proof.Equation.lean ====
/- The kernel's results and the reference's are equal where the gradient's magnitudes are at most the greatest finite f32: the
   exponent's argument is then below 2^126, where the searched exponent is the counted one and the scale's bits are the power. -/
module

public import proofs.«01_k».proof.Proof.KernelArrays
public import proofs.«01_k».proof.Proof.ReferenceArrays
public import proofs.«01_k».proof.Proof.Gen.Pre_dx_in_range
public import proofs.«01_k».proof.Defs

@[expose] public section

set_option maxRecDepth 16384

noncomputable section

namespace Cert.Mx

open Idealize.ShloMosaic

/-- The greatest finite f32. -/
theorem top_eq : Ideal.ofBits .f32 0x7F7FFFFF#32 = ((((2 : ℝ) ^ 24 - 1) * 2 ^ 104 : ℝ) : EReal) := by
  simp [Ideal.ofBits, Ideal.ieee, -EReal.coe_mul]
  norm_num

/-- The factor of the exponent's argument. -/
theorem factor_eq : Ideal.ofBits .f32 0x37924925#32 = ((9586981 * (2 : ℝ) ^ (-39 : ℤ) : ℝ) : EReal) := by
  simp [Ideal.ofBits, Ideal.ieee, -EReal.coe_mul]

/-- The bits of minus infinity read as the least extended real. -/
theorem bot_eq : Ideal.ofBits .f32 0xFF800000#32 = ⊥ := by
  simp [Ideal.ofBits, Ideal.ieee]

section Block
variable {f : Fin 32 → EReal} (h : ∀ t, mag (f t) ≤ Ideal.ofBits .f32 0x7F7FFFFF#32)
include h

/-- The greatest magnitude of a block in range is in range, -/
theorem amax_le : amax (fun t => mag (f t)) ≤ Ideal.ofBits .f32 0x7F7FFFFF#32 := by
  unfold amax
  rw [Finset.fold_max_le]
  exact ⟨by rw [bot_eq]; exact bot_le, fun t _ => h t⟩

/-- and the exponent's argument is below 2^126. -/
theorem arg_lt : arg f < (((2 : ℝ) ^ (126 : ℤ) : ℝ) : EReal) := by
  unfold arg
  refine lt_of_le_of_lt (mul_le_mul_of_nonneg_right (amax_le h) ?_) ?_
  · rw [factor_eq]
    exact EReal.coe_nonneg.mpr (by positivity)
  · rw [top_eq, factor_eq, ← EReal.coe_mul, EReal.coe_lt_coe_iff]
    norm_num

/-- The kernel's exponent and the reference's are one. -/
theorem expB_eq : expB f = expo (arg f) := expK_eq ((arg_lt h).trans (EReal.coe_lt_top _))

/-- The reference's exponent of a block is the exponent of the block's argument. -/
theorem expH_eq : expH f = expo (arg f) := by
  unfold expH
  refine expRef_eq fun h0 => ?_
  unfold arg
  rw [h0, zero_mul]

/-- So are the scale codes -/
theorem word_eq : word (expB f) = word (expH f) := by rw [expB_eq h, expH_eq h]

/-- and the scales. -/
theorem scales_eq : scaleK (expB f) = scaleRef (expH f) := by rw [expB_eq h, expH_eq h, scale_eq (arg_lt h)]

end Block

section Arrays
variable {D : Fin 1792 → Fin 12288 → EReal} (h : ∀ R L, mag (D R L) ≤ Ideal.ofBits .f32 0x7F7FFFFF#32)
include h

/-- The row codes, the row scale codes, the column codes and the column scale codes of a gradient in range are equal. -/
theorem cr_eq (R : Fin 1792) (L : Fin 12288) : crK D R L = crH D R L := by
  unfold crK crH
  rw [scales_eq (f := rowBlock D R ⟨L.val / 32, by omega⟩) fun _ => h _ _]

/-- In range, the row scale codes of kernel and reference are equal. -/
theorem sr_eq (R : Fin 1792) (k : Fin 384) : srK D R k = srH D R k :=
  word_eq (f := rowBlock D R k) fun _ => h _ _

/-- In range, the column codes of kernel and reference are equal. -/
theorem cc_eq (L : Fin 12288) (R : Fin 1792) : ccK D L R = ccH D L R := by
  unfold ccK ccH
  rw [scales_eq (f := colBlock D L ⟨R.val / 32, by omega⟩) fun _ => h _ _]

/-- In range, the column scale codes of kernel and reference are equal. -/
theorem sc_eq (L : Fin 12288) (k : Fin 56) : scK D L k = scH D L k :=
  word_eq (f := colBlock D L k) fun _ => h _ _

end Arrays

end Cert.Mx

namespace Cert.KernelIdeal.Hand

open Idealize.ShloMosaic Idealize.ShloMosaic.TcCoe
open Cert.Mx

/-- The precondition of arrays, at an element: the gradient's magnitude is at most the greatest finite f32. -/
theorem fn_at (x dy : FVec Ideal Cert.ReferenceIdeal.S2x896x12288 .bf16) (g : FVec Ideal Cert.ReferenceIdeal.S12288 .f32)
    (r : FVec Ideal Cert.ReferenceIdeal.S2x896 .f32) (h : Cert.Pre_dx_in_range.fn (F := Ideal) x dy g r = fun _ => 1#1) (i : Cert.ReferenceIdeal.S2x896x12288.Idx) :
    mag (Cert.ReferenceIdeal.Hand.dxT x dy g r i) ≤ Ideal.ofBits .f32 0x7F7FFFFF#32 := by
  have e : Ideal.cmp .ole (mag (Cert.ReferenceIdeal.Hand.dxT x dy g r i)) (Ideal.ofBits .f32 0x7F7FFFFF#32) = 1#1 := congrFun h i
  by_contra hn
  simp [Ideal.cmp, hn] at e

variable (m : (ℓ : Loc nD τ sig) → Buf (Elt Ideal) ℓ)

/-- So the gradient of a memory that meets the precondition is in range. -/
theorem dxK_le (hpre : Cert.Pre_KernelIdeal_dx_in_range m) (c : Dev nD) (R : Fin 1792) (L : Fin 12288) :
    mag (dxK m c R L) ≤ Ideal.ofBits .f32 0x7F7FFFFF#32 := by
  have h := fn_at _ _ _ _ (hpre c) (ix3 (rowOut R) (rowIn R) L)
  rw [Cert.ReferenceIdeal.Hand.dxT_at] at h
  exact h

end Cert.KernelIdeal.Hand

end
-- ==== Proof.Claims.lean ====
/- The value claim: from arguments that agree and meet the precondition, the idealized kernel and the reference end with equal
   results. -/
module

public import proofs.«01_k».proof.Proof.Equation

@[expose] public section

set_option maxRecDepth 16384

noncomputable section

namespace Cert.KernelIdeal.Hand

open Idealize.ShloMosaic Idealize.ShloMosaic.TcCoe Idealize.SL.Sem
open Cert.KernelIdeal.Gen Cert.Mx

variable (m : (ℓ : Loc nD τ sig) → Buf (Elt Ideal) ℓ) (ρ : Dev nD → PrngReg)

/-- The kernel's five results after every run, as functions of the gradient of its arguments; the arguments are unchanged. -/
theorem results : θ_run (defs (F := Ideal)) (onTc (τ := τ) (main (F := Ideal))) ⟨m, fun _ => 0, ρ⟩ (fun r => ∀ c : Dev nD,
      r.2.mem ((c.tc : Thread nD τ).loc main_v4_0) = (fun y : S1x12288.Idx => dgK m c (y 1))
      ∧ r.2.mem ((c.tc : Thread nD τ).loc main_v4_1) = (fun y : S1792x12288.Idx => crK (dxK m c) (y 0) (y 1))
      ∧ r.2.mem ((c.tc : Thread nD τ).loc main_v4_2) = (fun y : S1792x384.Idx => srK (dxK m c) (y 0) (y 1))
      ∧ r.2.mem ((c.tc : Thread nD τ).loc main_v4_3) = (fun y : S12288x1792.Idx => ccK (dxK m c) (y 0) (y 1))
      ∧ r.2.mem ((c.tc : Thread nD τ).loc main_v4_4) = (fun y : S12288x56.Idx => scK (dxK m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1.out_eq c 4).trans (arr4 m c), (h.1.1.out_eq c 5).trans (arr5 m c),
      (h.1.1.out_eq c 6).trans (arr6 m c), (h.1.1.out_eq c 7).trans (arr7 m c), (h.1.1.out_eq c 8).trans (arr8 m c), h.2 c⟩)
    (θ_run_and (run m ρ) (args_unchanged m ρ))

end Cert.KernelIdeal.Hand

namespace Cert.ReferenceIdeal.Hand

open Idealize.ShloMosaic Idealize.ShloMosaic.TcCoe Idealize.SL.Sem
open Cert.ReferenceIdeal.Gen Cert.Mx

variable (m : (ℓ : Loc nD τ sig) → Buf (Elt Ideal) ℓ) (ρ : Dev nD → PrngReg)

/-- The reference's five results after every run, as functions of the gradient of its arguments; the arguments are unchanged. -/
theorem results : θ_run (defs (F := Ideal)) (onTc (τ := τ) (main (F := Ideal))) ⟨m, fun _ => 0, ρ⟩ (fun r => ∀ c : Dev nD,
      r.2.mem ((c.tc : Thread nD τ).loc main_v20) = (fun y : S1x12288.Idx => dgH m c (y 1))
      ∧ r.2.mem ((c.tc : Thread nD τ).loc main_v108_0) = (fun y : S1792x12288.Idx => crH (dxH m c) (y 0) (y 1))
      ∧ r.2.mem ((c.tc : Thread nD τ).loc main_v105) = (fun y : S1792x384.Idx => srH (dxH m c) (y 0) (y 1))
      ∧ r.2.mem ((c.tc : Thread nD τ).loc main_v108_1) = (fun y : S12288x1792.Idx => ccH (dxH m c) (y 0) (y 1))
      ∧ r.2.mem ((c.tc : Thread nD τ).loc main_v104) = (fun y : S12288x56.Idx => scH (dxH m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.rest_eq c main_v20 (by decide)).trans (val20 m c), (h.1.out_eq c 2).trans (arr2 m c),
      (h.1.rest_eq c main_v105 (by decide)).trans (val105 m c), (h.1.out_eq c 3).trans (arr3 m c),
      (h.1.rest_eq c main_v104 (by decide)).trans (val104 m c), (h.2.1 c)⟩)
    (θ_run_and (run_main m ρ) (frame m ρ))

end Cert.ReferenceIdeal.Hand

namespace Cert.Proof

open Idealize.ShloMosaic Idealize.ShloMosaic.TcCoe Idealize.SL.Sem
open Cert.Mx

/-- The idealized kernel and the reference end with equal results from arguments that agree and meet the precondition. -/
theorem algebraic : Cert.algebraic_KernelIdeal_ReferenceIdeal_pre_dx_in_range := by
  intro m ρ m' ρ' hpre hagree
  have hx : ∀ c, Cert.ReferenceIdeal.Hand.dxH m' c = Cert.KernelIdeal.Hand.dxK m c := fun c => by
    obtain ⟨h0, h1, h2, h3⟩ := hagree c
    unfold Cert.ReferenceIdeal.Hand.dxH Cert.KernelIdeal.Hand.dxK
    rw [h0, h1, h2, h3]
  have hd : ∀ c, Cert.ReferenceIdeal.Hand.dgH m' c = Cert.KernelIdeal.Hand.dgK m c := fun c => by
    obtain ⟨h0, h1, h2, h3⟩ := hagree c
    unfold Cert.ReferenceIdeal.Hand.dgH Cert.KernelIdeal.Hand.dgK
    rw [h0, h1, h3]
  have hr := Cert.KernelIdeal.Hand.dxK_le m hpre
  refine ⟨_, _, _, _, _, Cert.KernelIdeal.Hand.results m ρ, ?_⟩
  refine (θ_run Cert.ReferenceIdeal.defs _ _).mono (fun _ h c => ?_) (Cert.ReferenceIdeal.Hand.results m' ρ')
  obtain ⟨e0, e1, e2, e3, e4, ha⟩ := h c
  rw [hd] at e0
  rw [hx] at e1 e2 e3 e4
  exact ⟨e0, e1.trans (funext fun y => (cr_eq (hr c) (y 0) (y 1)).symm), e2.trans (funext fun y => (sr_eq (hr c) (y 0) (y 1)).symm),
    e3.trans (funext fun y => (cc_eq (hr c) (y 0) (y 1)).symm), e4.trans (funext fun y => (sc_eq (hr c) (y 0) (y 1)).symm), ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_dx_in_range
public import proofs.«01_k».proof.Proof.KernelFrame
public import proofs.«01_k».proof.Proof.KernelIdealRun
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim: the frames with every counter at zero, the sanctioned idealization, and the equality with the reference. -/
theorem claim : Cert.Claim := ⟨Cert.Kernel.Gen.facts, Cert.KernelIdeal.Gen.facts, Cert.ReferenceIdeal.Gen.facts, Cert.Pre_dx_in_range.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  IdealRules.named_const.statement Cert.KernelIdeal.κ "inv_d" .f32 0x38AAAAAB#32 ((1 / 12288 : ℝ) : EReal) rfl, algebraic⟩

end Cert.Proof

end
